-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x16 : Shape := ⟨2, ![1000000, 16]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x16 .f32) (main_arg3 : FVec F S1000000x16 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S1000000x16 : Shape := ⟨2, ![1000000, 16]⟩
abbrev S125000x128 : Shape := ⟨2, ![125000, 128]⟩
abbrev S512 : Shape := ⟨1, ![512]⟩
abbrev S256 : Shape := ⟨1, ![256]⟩
abbrev S256x128 : Shape := ⟨2, ![256, 128]⟩
abbrev S_ : Shape := ⟨0, ![]⟩
abbrev S16 : Shape := ⟨1, ![16]⟩

abbrev nBuf : Table → Nat
  | .hbm => 7
  | .local .scVector .vmem => 7
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S125000x128, .f32⟩
  | .hbm, ⟨5, _⟩ => ⟨S125000x128, .f32⟩
  | .hbm, ⟨6, _⟩ => ⟨S16384, .f32⟩
  | .local .scVector .vmem, ⟨0, _⟩ => ⟨S512, .i32⟩
  | .local .scVector .vmem, ⟨1, _⟩ => ⟨S512, .i32⟩
  | .local .scVector .vmem, ⟨2, _⟩ => ⟨S256, .i32⟩
  | .local .scVector .vmem, ⟨3, _⟩ => ⟨S256, .i32⟩
  | .local .scVector .vmem, ⟨4, _⟩ => ⟨S256x128, .f32⟩
  | .local .scVector .vmem, ⟨5, _⟩ => ⟨S256x128, .f32⟩
  | .local .scVector .vmem, ⟨6, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c2_i32_1 : BitVec 32 := 2#32
  let v4 : BitVec 32 := Scalar.addi c0_i32_0 c2_i32_1
  let c1_i32 : BitVec 32 := 1#32
  ⟨c0_i32_0, v4, c1_i32⟩
@[reducible] def k0_t2_loop : Scf.Loop 32 :=
  let c0_i32_4 : BitVec 32 := 0#32
  let c16_i32 : BitVec 32 := 16#32
  let v6 : BitVec 32 := Scalar.addi c0_i32_4 c16_i32
  let c1_i32_5 : BitVec 32 := 1#32
  ⟨c0_i32_4, v6, c1_i32_5⟩
def k0_off2 (k0_t1 : Fin k0_t1_loop.trips) (k0_t2 : Fin k0_t2_loop.trips) : Fin 1 → Nat :=
  let c0_i32_0 : BitVec 32 := 0#32
  let c1_i32 : BitVec 32 := 1#32
  let arg16 : BitVec 32 := Scf.iv c0_i32_0 c1_i32 k0_t1
  let c256_i32 : BitVec 32 := 256#32
  let v5 : BitVec 32 := Scalar.muli arg16 c256_i32
  let c0_i32_4 : BitVec 32 := 0#32
  let c1_i32_5 : BitVec 32 := 1#32
  let arg17 : BitVec 32 := Scf.iv c0_i32_4 c1_i32_5 k0_t2
  let c16_i32_20 : BitVec 32 := 16#32
  let v12 : BitVec 32 := Scalar.muli arg17 c16_i32_20
  let v13 : BitVec 32 := Scalar.addi v5 v12
  let v14 : Index := Scalar.indexCast v13
  ![v14.toNat]
def k0_off3 (k0_t2 : Fin k0_t2_loop.trips) : Fin 1 → Nat :=
  let c0_i32_4 : BitVec 32 := 0#32
  let c1_i32_5 : BitVec 32 := 1#32
  let arg17 : BitVec 32 := Scf.iv c0_i32_4 c1_i32_5 k0_t2
  let c16_i32_20 : BitVec 32 := 16#32
  let v12 : BitVec 32 := Scalar.muli arg17 c16_i32_20
  let v18 : Index := Scalar.indexCast v12
  ![v18.toNat]
@[reducible] def k0_t3_loop : Scf.Loop 32 :=
  let c0_i32_16 : BitVec 32 := 0#32
  let c16_i32_17 : BitVec 32 := 16#32
  let v11 : BitVec 32 := Scalar.addi c0_i32_16 c16_i32_17
  let c1_i32_18 : BitVec 32 := 1#32
  ⟨c0_i32_16, v11, c1_i32_18⟩
def k0_off4 (k0_t1 : Fin k0_t1_loop.trips) (k0_t3 : Fin k0_t3_loop.trips) : Fin 1 → Nat :=
  let c0_i32_0 : BitVec 32 := 0#32
  let c1_i32 : BitVec 32 := 1#32
  let arg16 : BitVec 32 := Scf.iv c0_i32_0 c1_i32 k0_t1
  let c256_i32 : BitVec 32 := 256#32
  let v5 : BitVec 32 := Scalar.muli arg16 c256_i32
  let c0_i32_16 : BitVec 32 := 0#32
  let c1_i32_18 : BitVec 32 := 1#32
  let arg17 : BitVec 32 := Scf.iv c0_i32_16 c1_i32_18 k0_t3
  let c16_i32_20 : BitVec 32 := 16#32
  let v12 : BitVec 32 := Scalar.muli arg17 c16_i32_20
  let v13 : BitVec 32 := Scalar.addi v5 v12
  let v14 : Index := Scalar.indexCast v13
  ![v14.toNat]

def k0_chk1 (v28 : IVec S16 32) (v31 : IVec S16 32) : Prop :=
  (∀ a x, ((![v28, v31] : Fin 2 → IVec S16 32) a x).toNat < S256x128.size a)
theorem k0_idx1_inb : ∀ (v28 : IVec S16 32) (v31 : IVec S16 32) (k0_hw1 : k0_chk1 v28 v31), ∀ a x, ((![v28, v31] : Fin 2 → IVec S16 32) a x).toNat < S256x128.size a := fun v28 v31 k0_hw1 => k0_hw1

def k0_chk2 (v28 : IVec S16 32) (v34 : IVec S16 32) : Prop :=
  (∀ a x, ((![v28, v34] : Fin 2 → IVec S16 32) a x).toNat < S256x128.size a)
theorem k0_idx2_inb : ∀ (v28 : IVec S16 32) (v34 : IVec S16 32) (k0_hw2 : k0_chk2 v28 v34), ∀ a x, ((![v28, v34] : Fin 2 → IVec S16 32) a x).toNat < S256x128.size a := fun v28 v34 k0_hw2 => k0_hw2

def k0_chk3 (v28 : IVec S16 32) (v39 : IVec S16 32) : Prop :=
  (∀ a x, ((![v28, v39] : Fin 2 → IVec S16 32) a x).toNat < S256x128.size a)
theorem k0_idx3_inb : ∀ (v28 : IVec S16 32) (v39 : IVec S16 32) (k0_hw3 : k0_chk3 v28 v39), ∀ a x, ((![v28, v39] : Fin 2 → IVec S16 32) a x).toNat < S256x128.size a := fun v28 v39 k0_hw3 => k0_hw3

def k0_chk4 (v28 : IVec S16 32) (v42 : IVec S16 32) : Prop :=
  (∀ a x, ((![v28, v42] : Fin 2 → IVec S16 32) a x).toNat < S256x128.size a)
theorem k0_idx4_inb : ∀ (v28 : IVec S16 32) (v42 : IVec S16 32) (k0_hw4 : k0_chk4 v28 v42), ∀ a x, ((![v28, v42] : Fin 2 → IVec S16 32) a x).toNat < S256x128.size a := fun v28 v42 k0_hw4 => k0_hw4

def k0_chk5 (v28 : IVec S16 32) (v47 : IVec S16 32) : Prop :=
  (∀ a x, ((![v28, v47] : Fin 2 → IVec S16 32) a x).toNat < S256x128.size a)
theorem k0_idx5_inb : ∀ (v28 : IVec S16 32) (v47 : IVec S16 32) (k0_hw5 : k0_chk5 v28 v47), ∀ a x, ((![v28, v47] : Fin 2 → IVec S16 32) a x).toNat < S256x128.size a := fun v28 v47 k0_hw5 => k0_hw5

def k0_chk6 (v28 : IVec S16 32) (v50 : IVec S16 32) : Prop :=
  (∀ a x, ((![v28, v50] : Fin 2 → IVec S16 32) a x).toNat < S256x128.size a)
theorem k0_idx6_inb : ∀ (v28 : IVec S16 32) (v50 : IVec S16 32) (k0_hw6 : k0_chk6 v28 v50), ∀ a x, ((![v28, v50] : Fin 2 → IVec S16 32) a x).toNat < S256x128.size a := fun v28 v50 k0_hw6 => k0_hw6

def k0_chk7 (v28 : IVec S16 32) (v55 : IVec S16 32) : Prop :=
  (∀ a x, ((![v28, v55] : Fin 2 → IVec S16 32) a x).toNat < S256x128.size a)
theorem k0_idx7_inb : ∀ (v28 : IVec S16 32) (v55 : IVec S16 32) (k0_hw7 : k0_chk7 v28 v55), ∀ a x, ((![v28, v55] : Fin 2 → IVec S16 32) a x).toNat < S256x128.size a := fun v28 v55 k0_hw7 => k0_hw7

def k0_chk8 (v28 : IVec S16 32) (v58 : IVec S16 32) : Prop :=
  (∀ a x, ((![v28, v58] : Fin 2 → IVec S16 32) a x).toNat < S256x128.size a)
theorem k0_idx8_inb : ∀ (v28 : IVec S16 32) (v58 : IVec S16 32) (k0_hw8 : k0_chk8 v28 v58), ∀ a x, ((![v28, v58] : Fin 2 → IVec S16 32) a x).toNat < S256x128.size a := fun v28 v58 k0_hw8 => k0_hw8

def k0_chk9 (v28 : IVec S16 32) (v63 : IVec S16 32) : Prop :=
  (∀ a x, ((![v28, v63] : Fin 2 → IVec S16 32) a x).toNat < S256x128.size a)
theorem k0_idx9_inb : ∀ (v28 : IVec S16 32) (v63 : IVec S16 32) (k0_hw9 : k0_chk9 v28 v63), ∀ a x, ((![v28, v63] : Fin 2 → IVec S16 32) a x).toNat < S256x128.size a := fun v28 v63 k0_hw9 => k0_hw9

def k0_chk10 (v28 : IVec S16 32) (v66 : IVec S16 32) : Prop :=
  (∀ a x, ((![v28, v66] : Fin 2 → IVec S16 32) a x).toNat < S256x128.size a)
theorem k0_idx10_inb : ∀ (v28 : IVec S16 32) (v66 : IVec S16 32) (k0_hw10 : k0_chk10 v28 v66), ∀ a x, ((![v28, v66] : Fin 2 → IVec S16 32) a x).toNat < S256x128.size a := fun v28 v66 k0_hw10 => k0_hw10

def k0_chk11 (v28 : IVec S16 32) (v71 : IVec S16 32) : Prop :=
  (∀ a x, ((![v28, v71] : Fin 2 → IVec S16 32) a x).toNat < S256x128.size a)
theorem k0_idx11_inb : ∀ (v28 : IVec S16 32) (v71 : IVec S16 32) (k0_hw11 : k0_chk11 v28 v71), ∀ a x, ((![v28, v71] : Fin 2 → IVec S16 32) a x).toNat < S256x128.size a := fun v28 v71 k0_hw11 => k0_hw11

def k0_chk12 (v28 : IVec S16 32) (v74 : IVec S16 32) : Prop :=
  (∀ a x, ((![v28, v74] : Fin 2 → IVec S16 32) a x).toNat < S256x128.size a)
theorem k0_idx12_inb : ∀ (v28 : IVec S16 32) (v74 : IVec S16 32) (k0_hw12 : k0_chk12 v28 v74), ∀ a x, ((![v28, v74] : Fin 2 → IVec S16 32) a x).toNat < S256x128.size a := fun v28 v74 k0_hw12 => k0_hw12

def k0_chk13 (v28 : IVec S16 32) (v79 : IVec S16 32) : Prop :=
  (∀ a x, ((![v28, v79] : Fin 2 → IVec S16 32) a x).toNat < S256x128.size a)
theorem k0_idx13_inb : ∀ (v28 : IVec S16 32) (v79 : IVec S16 32) (k0_hw13 : k0_chk13 v28 v79), ∀ a x, ((![v28, v79] : Fin 2 → IVec S16 32) a x).toNat < S256x128.size a := fun v28 v79 k0_hw13 => k0_hw13

def k0_chk14 (v28 : IVec S16 32) (v82 : IVec S16 32) : Prop :=
  (∀ a x, ((![v28, v82] : Fin 2 → IVec S16 32) a x).toNat < S256x128.size a)
theorem k0_idx14_inb : ∀ (v28 : IVec S16 32) (v82 : IVec S16 32) (k0_hw14 : k0_chk14 v28 v82), ∀ a x, ((![v28, v82] : Fin 2 → IVec S16 32) a x).toNat < S256x128.size a := fun v28 v82 k0_hw14 => k0_hw14

def k0_chk15 (v28 : IVec S16 32) (v87 : IVec S16 32) : Prop :=
  (∀ a x, ((![v28, v87] : Fin 2 → IVec S16 32) a x).toNat < S256x128.size a)
theorem k0_idx15_inb : ∀ (v28 : IVec S16 32) (v87 : IVec S16 32) (k0_hw15 : k0_chk15 v28 v87), ∀ a x, ((![v28, v87] : Fin 2 → IVec S16 32) a x).toNat < S256x128.size a := fun v28 v87 k0_hw15 => k0_hw15

def k0_chk16 (v28 : IVec S16 32) (v90 : IVec S16 32) : Prop :=
  (∀ a x, ((![v28, v90] : Fin 2 → IVec S16 32) a x).toNat < S256x128.size a)
theorem k0_idx16_inb : ∀ (v28 : IVec S16 32) (v90 : IVec S16 32) (k0_hw16 : k0_chk16 v28 v90), ∀ a x, ((![v28, v90] : Fin 2 → IVec S16 32) a x).toNat < S256x128.size a := fun v28 v90 k0_hw16 => k0_hw16

def k0_chk17 (v28 : IVec S16 32) (v95 : IVec S16 32) : Prop :=
  (∀ a x, ((![v28, v95] : Fin 2 → IVec S16 32) a x).toNat < S256x128.size a)
theorem k0_idx17_inb : ∀ (v28 : IVec S16 32) (v95 : IVec S16 32) (k0_hw17 : k0_chk17 v28 v95), ∀ a x, ((![v28, v95] : Fin 2 → IVec S16 32) a x).toNat < S256x128.size a := fun v28 v95 k0_hw17 => k0_hw17

def k0_chk18 (v28 : IVec S16 32) (v98 : IVec S16 32) : Prop :=
  (∀ a x, ((![v28, v98] : Fin 2 → IVec S16 32) a x).toNat < S256x128.size a)
theorem k0_idx18_inb : ∀ (v28 : IVec S16 32) (v98 : IVec S16 32) (k0_hw18 : k0_chk18 v28 v98), ∀ a x, ((![v28, v98] : Fin 2 → IVec S16 32) a x).toNat < S256x128.size a := fun v28 v98 k0_hw18 => k0_hw18

def k0_chk19 (v28 : IVec S16 32) (v103 : IVec S16 32) : Prop :=
  (∀ a x, ((![v28, v103] : Fin 2 → IVec S16 32) a x).toNat < S256x128.size a)
theorem k0_idx19_inb : ∀ (v28 : IVec S16 32) (v103 : IVec S16 32) (k0_hw19 : k0_chk19 v28 v103), ∀ a x, ((![v28, v103] : Fin 2 → IVec S16 32) a x).toNat < S256x128.size a := fun v28 v103 k0_hw19 => k0_hw19

def k0_chk20 (v28 : IVec S16 32) (v106 : IVec S16 32) : Prop :=
  (∀ a x, ((![v28, v106] : Fin 2 → IVec S16 32) a x).toNat < S256x128.size a)
theorem k0_idx20_inb : ∀ (v28 : IVec S16 32) (v106 : IVec S16 32) (k0_hw20 : k0_chk20 v28 v106), ∀ a x, ((![v28, v106] : Fin 2 → IVec S16 32) a x).toNat < S256x128.size a := fun v28 v106 k0_hw20 => k0_hw20

def k0_chk21 (v28 : IVec S16 32) (v111 : IVec S16 32) : Prop :=
  (∀ a x, ((![v28, v111] : Fin 2 → IVec S16 32) a x).toNat < S256x128.size a)
theorem k0_idx21_inb : ∀ (v28 : IVec S16 32) (v111 : IVec S16 32) (k0_hw21 : k0_chk21 v28 v111), ∀ a x, ((![v28, v111] : Fin 2 → IVec S16 32) a x).toNat < S256x128.size a := fun v28 v111 k0_hw21 => k0_hw21

def k0_chk22 (v28 : IVec S16 32) (v114 : IVec S16 32) : Prop :=
  (∀ a x, ((![v28, v114] : Fin 2 → IVec S16 32) a x).toNat < S256x128.size a)
theorem k0_idx22_inb : ∀ (v28 : IVec S16 32) (v114 : IVec S16 32) (k0_hw22 : k0_chk22 v28 v114), ∀ a x, ((![v28, v114] : Fin 2 → IVec S16 32) a x).toNat < S256x128.size a := fun v28 v114 k0_hw22 => k0_hw22

def k0_chk23 (v28 : IVec S16 32) (v119 : IVec S16 32) : Prop :=
  (∀ a x, ((![v28, v119] : Fin 2 → IVec S16 32) a x).toNat < S256x128.size a)
theorem k0_idx23_inb : ∀ (v28 : IVec S16 32) (v119 : IVec S16 32) (k0_hw23 : k0_chk23 v28 v119), ∀ a x, ((![v28, v119] : Fin 2 → IVec S16 32) a x).toNat < S256x128.size a := fun v28 v119 k0_hw23 => k0_hw23

def k0_chk24 (v28 : IVec S16 32) (v122 : IVec S16 32) : Prop :=
  (∀ a x, ((![v28, v122] : Fin 2 → IVec S16 32) a x).toNat < S256x128.size a)
theorem k0_idx24_inb : ∀ (v28 : IVec S16 32) (v122 : IVec S16 32) (k0_hw24 : k0_chk24 v28 v122), ∀ a x, ((![v28, v122] : Fin 2 → IVec S16 32) a x).toNat < S256x128.size a := fun v28 v122 k0_hw24 => k0_hw24

def k0_chk25 (v28 : IVec S16 32) (v127 : IVec S16 32) : Prop :=
  (∀ a x, ((![v28, v127] : Fin 2 → IVec S16 32) a x).toNat < S256x128.size a)
theorem k0_idx25_inb : ∀ (v28 : IVec S16 32) (v127 : IVec S16 32) (k0_hw25 : k0_chk25 v28 v127), ∀ a x, ((![v28, v127] : Fin 2 → IVec S16 32) a x).toNat < S256x128.size a := fun v28 v127 k0_hw25 => k0_hw25

def k0_chk26 (v28 : IVec S16 32) (v130 : IVec S16 32) : Prop :=
  (∀ a x, ((![v28, v130] : Fin 2 → IVec S16 32) a x).toNat < S256x128.size a)
theorem k0_idx26_inb : ∀ (v28 : IVec S16 32) (v130 : IVec S16 32) (k0_hw26 : k0_chk26 v28 v130), ∀ a x, ((![v28, v130] : Fin 2 → IVec S16 32) a x).toNat < S256x128.size a := fun v28 v130 k0_hw26 => k0_hw26

def k0_chk27 (v28 : IVec S16 32) (v135 : IVec S16 32) : Prop :=
  (∀ a x, ((![v28, v135] : Fin 2 → IVec S16 32) a x).toNat < S256x128.size a)
theorem k0_idx27_inb : ∀ (v28 : IVec S16 32) (v135 : IVec S16 32) (k0_hw27 : k0_chk27 v28 v135), ∀ a x, ((![v28, v135] : Fin 2 → IVec S16 32) a x).toNat < S256x128.size a := fun v28 v135 k0_hw27 => k0_hw27

def k0_chk28 (v28 : IVec S16 32) (v138 : IVec S16 32) : Prop :=
  (∀ a x, ((![v28, v138] : Fin 2 → IVec S16 32) a x).toNat < S256x128.size a)
theorem k0_idx28_inb : ∀ (v28 : IVec S16 32) (v138 : IVec S16 32) (k0_hw28 : k0_chk28 v28 v138), ∀ a x, ((![v28, v138] : Fin 2 → IVec S16 32) a x).toNat < S256x128.size a := fun v28 v138 k0_hw28 => k0_hw28

def k0_chk29 (v28 : IVec S16 32) (v143 : IVec S16 32) : Prop :=
  (∀ a x, ((![v28, v143] : Fin 2 → IVec S16 32) a x).toNat < S256x128.size a)
theorem k0_idx29_inb : ∀ (v28 : IVec S16 32) (v143 : IVec S16 32) (k0_hw29 : k0_chk29 v28 v143), ∀ a x, ((![v28, v143] : Fin 2 → IVec S16 32) a x).toNat < S256x128.size a := fun v28 v143 k0_hw29 => k0_hw29

def k0_chk30 (v28 : IVec S16 32) (v146 : IVec S16 32) : Prop :=
  (∀ a x, ((![v28, v146] : Fin 2 → IVec S16 32) a x).toNat < S256x128.size a)
theorem k0_idx30_inb : ∀ (v28 : IVec S16 32) (v146 : IVec S16 32) (k0_hw30 : k0_chk30 v28 v146), ∀ a x, ((![v28, v146] : Fin 2 → IVec S16 32) a x).toNat < S256x128.size a := fun v28 v146 k0_hw30 => k0_hw30

def k0_chk31 (v28 : IVec S16 32) (v151 : IVec S16 32) : Prop :=
  (∀ a x, ((![v28, v151] : Fin 2 → IVec S16 32) a x).toNat < S256x128.size a)
theorem k0_idx31_inb : ∀ (v28 : IVec S16 32) (v151 : IVec S16 32) (k0_hw31 : k0_chk31 v28 v151), ∀ a x, ((![v28, v151] : Fin 2 → IVec S16 32) a x).toNat < S256x128.size a := fun v28 v151 k0_hw31 => k0_hw31

def k0_chk32 (v28 : IVec S16 32) (v154 : IVec S16 32) : Prop :=
  (∀ a x, ((![v28, v154] : Fin 2 → IVec S16 32) a x).toNat < S256x128.size a)
theorem k0_idx32_inb : ∀ (v28 : IVec S16 32) (v154 : IVec S16 32) (k0_hw32 : k0_chk32 v28 v154), ∀ a x, ((![v28, v154] : Fin 2 → IVec S16 32) a x).toNat < S256x128.size a := fun v28 v154 k0_hw32 => k0_hw32
def k0_off5 (k0_t1 : Fin k0_t1_loop.trips) (k0_t3 : Fin k0_t3_loop.trips) : Fin 1 → Nat :=
  let c0_i32_0 : BitVec 32 := 0#32
  let c1_i32 : BitVec 32 := 1#32
  let arg16 : BitVec 32 := Scf.iv c0_i32_0 c1_i32 k0_t1
  let c256_i32 : BitVec 32 := 256#32
  let v5 : BitVec 32 := Scalar.muli arg16 c256_i32
  let c0_i32_16 : BitVec 32 := 0#32
  let c1_i32_18 : BitVec 32 := 1#32
  let arg17 : BitVec 32 := Scf.iv c0_i32_16 c1_i32_18 k0_t3
  let c16_i32_20 : BitVec 32 := 16#32
  let v12 : BitVec 32 := Scalar.muli arg17 c16_i32_20
  let v158 : BitVec 32 := Scalar.addi v5 v12
  let v159 : Index := Scalar.indexCast v158
  ![v159.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x16 : Shape := ⟨2, ![1000000, 16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩

abbrev nBuf : Space → Nat
  | .hbm => 53
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x16, .f32⟩
  | .hbm, ⟨23, _⟩ => ⟨S16384x16, .i1⟩
  | .hbm, ⟨24, _⟩ => ⟨S_, .f32⟩
  | .hbm, ⟨25, _⟩ => ⟨S16384x16, .f32⟩
  | .hbm, ⟨26, _⟩ => ⟨S16384x16, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x16, .f32⟩
  | .hbm, ⟨46, _⟩ => ⟨S16384x16, .i1⟩
  | .hbm, ⟨47, _⟩ => ⟨S_, .f32⟩
  | .hbm, ⟨48, _⟩ => ⟨S16384x16, .f32⟩
  | .hbm, ⟨49, _⟩ => ⟨S16384x16, .f32⟩
  | .hbm, ⟨50, _⟩ => ⟨S16384x16, .f32⟩
  | .hbm, ⟨51, _⟩ => ⟨S_, .f32⟩
  | .hbm, ⟨52, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩

abbrev nD : Nat := 1
abbrev τ : Topo := Topo.v7x

variable {F : FTy → Type} [FloatOps F]
-- ==== Proof.Value.lean ====
/-
  What the kernel computes, as mathematics over any float format's operations: each output word is the sixteen-step running sum of
  products of two table rows' entries. `Scores` is that function; the rest of the module reads the kernel's vector payloads lane by lane.
-/
module

public import proofs.«01_k».proof.Defs
public import proofs.«01_k».proof.Proof.Gen.KernelIdeal
public import proofs.«01_k».proof.Proof.Gen.KernelIdeal.Skeleton
public import Idealize.ShloMosaic.Lib.ValueIdxCore
public import Idealize.ShloMosaic.Lib.ValueIdxCoords
public import Idealize.ShloMosaic.Lib.WordArith.Masks

@[expose] public section

noncomputable section

namespace Cert.Proof.Mf

open Cert.KernelIdeal Cert.KernelIdeal.Gen
open Idealize.ShloMosaic
open Idealize.ShloMosaic.ValueIdx (ix1 ix2 eq_ix1 eq_ix2)

variable {F : FTy → Type} [FloatOps F]

/-! ## The function computed -/

/-- Entry `d` of the table row an id names, the table kept as 125000 rows of 128 words: eight rows of sixteen side by side. -/
def entry (t : S125000x128.Idx → F .f32) (w : BitVec 32) (d : ℕ) : F .f32 :=
  t (ix2 ⟨w.toNat / 8 % 125000, Nat.mod_lt _ (by decide)⟩ ⟨(w.toNat % 8 * 16 + d) % 128, Nat.mod_lt _ (by decide)⟩)

/-- The running sum of the first `n` products of the two rows' entries, from the zero word. -/
def dot (ut it : S125000x128.Idx → F .f32) (wu wi : BitVec 32) : ℕ → F .f32
  | 0 => Scalar.ofBits .f32 0x00000000#32
  | n + 1 => FloatOps.addf (dot ut it wu wi n) (FloatOps.mulf (entry ut wu n) (entry it wi n))

/-- The score of every pair of ids. -/
def Scores (u i : S16384.Idx → BitVec 32) (ut it : S125000x128.Idx → F .f32) : S16384.Idx → F .f32 :=
  fun x => dot ut it (u x) (i x) 16

/-! ## Word arithmetic -/

/-- The column word of entry `d`: the low three bits of the id times sixteen, plus `d`. -/
def colw (w : BitVec 32) (d : BitVec 32) : BitVec 32 := (w &&& 7#32) * 16#32 + d

theorem toNat_and7 (w : BitVec 32) : (w &&& 7#32).toNat = w.toNat % 8 := by
  rw [BitVec.toNat_and]
  exact Nat.and_two_pow_sub_one_eq_mod w.toNat 3

theorem toNat_colw (w d : BitVec 32) (hd : d.toNat < 16) : (colw w d).toNat = w.toNat % 8 * 16 + d.toNat := by
  unfold colw
  rw [BitVec.toNat_add, BitVec.toNat_mul, toNat_and7]
  have : (16#32 : BitVec 32).toNat = 16 := rfl
  rw [this]
  have := Nat.mod_lt w.toNat (show 0 < 8 by decide)
  omega

theorem colw_lt (w d : BitVec 32) (hd : d.toNat < 16) : (colw w d).toNat < 128 := by
  rw [toNat_colw w d hd]
  have := Nat.mod_lt w.toNat (show 0 < 8 by decide)
  omega

/-- The block word of an id is its quotient by eight. -/
theorem toNat_shr3 (w : BitVec 32) : (IntOp.shrui .vector w 3#32).toNat = w.toNat / 8 := by
  unfold IntOp.shrui
  rw [if_pos (by decide), BitVec.ushiftRight_eq', BitVec.toNat_ushiftRight, Nat.shiftRight_eq_div_pow]
  rfl

/-! ## Vectors read lane by lane -/

/-- A row vector and a column vector within the row buffer's bounds pass the printed check. -/
theorem chk_ok (r c : IVec S16 32) (hr : ∀ x, (r x).toNat < 256) (hc : ∀ x, (c x).toNat < 128) :
    ∀ a x, ((![r, c] : Fin 2 → IVec S16 32) a x).toNat < S256x128.size a := by
  intro a x
  match a with
  | 0 => exact hr x
  | 1 => exact hc x

/-- The words of the row buffer that a row vector and a column vector name. -/
def pick (f : S256x128.Idx → F .f32) (r c : IVec S16 32) : FVec F S16 .f32 :=
  fun x => f (ix2 ⟨(r x).toNat % 256, Nat.mod_lt _ (by decide)⟩ ⟨(c x).toNat % 128, Nat.mod_lt _ (by decide)⟩)

theorem loadIdx_eq_pick (f : Vec F S256x128 .f32) (r c : IVec S16 32)
    (h : ∀ a x, ((![r, c] : Fin 2 → IVec S16 32) a x).toNat < S256x128.size a) :
    loadIdx f (![r, c] : Fin 2 → IVec S16 32) h = pick f r c := by
  funext x
  unfold loadIdx pick
  congr 1
  funext a
  match a with
  | 0 => exact Fin.ext (Nat.mod_eq_of_lt (h 0 x)).symm
  | 1 => exact Fin.ext (Nat.mod_eq_of_lt (h 1 x)).symm

/-- The row words of trip `g`: sixteen times the trip plus the lane. -/
theorem toNat_rows (g : Fin k0_t3_loop.trips) (x : S16.Idx) :
    (k0_pay12 (iota .scVector S16 32 [0] iota_S16_d0_w32_scVector) 0#32 1#32 g x).toNat = 16 * g.val + (x 0).val := by
  have hg : g.val < 16 := lt_of_lt_of_le g.isLt k0_t3_abs.2.1
  have hx : (x 0).val < 16 := (x 0).isLt
  show (Scf.iv 0#32 1#32 g.val * 16#32 + BitVec.ofNat 32 (0 * 16 + (x 0).val)).toNat = _
  rw [BitVec.toNat_add, BitVec.toNat_mul, WordArith.toNat_iv_zero_one _ (by omega)]
  simp only [BitVec.toNat_ofNat]
  omega

/-- What one trip of the innermost loop stores, in the printed payloads. -/
def total (f g : S256x128.Idx → F .f32) (r : IVec S16 32) (u i : Vec F S16 .i32) : FVec F S16 .f32 :=
  k0_pay9
    (k0_pay41
      (k0_pay29 (k0_pay17 (pick f r (k0_pay13 u)) (pick g r (k0_pay14 i)) (pick f r (k0_pay15 u)) (pick g r (k0_pay16 i)))
        (k0_pay20 (pick f r (k0_pay18 u)) (pick g r (k0_pay19 i)))
        (pick f r (k0_pay21 (k0_pay10 u))) (pick g r (k0_pay22 (k0_pay11 i))) (pick f r (k0_pay23 (k0_pay10 u))) (pick g r (k0_pay24 (k0_pay11 i)))
        (pick f r (k0_pay25 (k0_pay10 u))) (pick g r (k0_pay26 (k0_pay11 i))) (pick f r (k0_pay27 (k0_pay10 u))) (pick g r (k0_pay28 (k0_pay11 i))))
      (k0_pay32 (pick f r (k0_pay30 (k0_pay10 u))) (pick g r (k0_pay31 (k0_pay11 i))))
      (pick f r (k0_pay33 (k0_pay10 u))) (pick g r (k0_pay34 (k0_pay11 i))) (pick f r (k0_pay35 (k0_pay10 u))) (pick g r (k0_pay36 (k0_pay11 i)))
      (pick f r (k0_pay37 (k0_pay10 u))) (pick g r (k0_pay38 (k0_pay11 i))) (pick f r (k0_pay39 (k0_pay10 u))) (pick g r (k0_pay40 (k0_pay11 i))))
    (k0_pay44 (pick f r (k0_pay42 (k0_pay10 u))) (pick g r (k0_pay43 (k0_pay11 i))))
    (pick f r (k0_pay3 (k0_pay10 u))) (pick g r (k0_pay4 (k0_pay11 i))) (pick f r (k0_pay5 (k0_pay10 u))) (pick g r (k0_pay6 (k0_pay11 i)))
    (pick f r (k0_pay7 (k0_pay10 u))) (pick g r (k0_pay8 (k0_pay11 i)))

/-- Lane `x` of what a trip stores, when row `r x` of each row buffer is the table row of the lane's id: the pair's score. -/
theorem total_apply (f g : S256x128.Idx → F .f32) (ut it : S125000x128.Idx → F .f32) (r : IVec S16 32) (u i : Vec F S16 .i32) (x : S16.Idx)
    (hf : ∀ c : Fin 128, f (ix2 ⟨(r x).toNat % 256, Nat.mod_lt _ (by decide)⟩ c) = ut (ix2 ⟨(u x : BitVec 32).toNat / 8 % 125000, Nat.mod_lt _ (by decide)⟩ c))
    (hg : ∀ c : Fin 128, g (ix2 ⟨(r x).toNat % 256, Nat.mod_lt _ (by decide)⟩ c) = it (ix2 ⟨(i x : BitVec 32).toNat / 8 % 125000, Nat.mod_lt _ (by decide)⟩ c)) :
    total f g r u i x = dot ut it (u x) (i x) 16 := by
  have key : ∀ (h : S256x128.Idx → F .f32) (t : S125000x128.Idx → F .f32) (v : Vec F S16 .i32),
      (∀ c : Fin 128, h (ix2 ⟨(r x).toNat % 256, Nat.mod_lt _ (by decide)⟩ c) = t (ix2 ⟨(v x : BitVec 32).toNat / 8 % 125000, Nat.mod_lt _ (by decide)⟩ c)) →
      ∀ n : ℕ, n < 16 → pick h r (fun y => colw (v y) (BitVec.ofNat 32 n)) x = entry t (v x) n := by
    intro h t v hh n hn
    have hn' : (BitVec.ofNat 32 n).toNat = n := by rw [BitVec.toNat_ofNat]; omega
    unfold pick entry
    rw [hh]
    congr 2
    refine Fin.ext ?_
    show (colw (v x) (BitVec.ofNat 32 n)).toNat % 128 = _
    rw [toNat_colw _ _ (by omega), hn']
  have kf := key f ut u hf
  have kg := key g it i hg
  simp only [dot]
  rw [← kf 0 (by decide), ← kf 1 (by decide), ← kf 2 (by decide), ← kf 3 (by decide), ← kf 4 (by decide), ← kf 5 (by decide), ← kf 6 (by decide),
    ← kf 7 (by decide), ← kf 8 (by decide), ← kf 9 (by decide), ← kf 10 (by decide), ← kf 11 (by decide), ← kf 12 (by decide), ← kf 13 (by decide),
    ← kf 14 (by decide), ← kf 15 (by decide),
    ← kg 0 (by decide), ← kg 1 (by decide), ← kg 2 (by decide), ← kg 3 (by decide), ← kg 4 (by decide), ← kg 5 (by decide), ← kg 6 (by decide),
    ← kg 7 (by decide), ← kg 8 (by decide), ← kg 9 (by decide), ← kg 10 (by decide), ← kg 11 (by decide), ← kg 12 (by decide), ← kg 13 (by decide),
    ← kg 14 (by decide), ← kg 15 (by decide)]
  rfl

end Cert.Proof.Mf
end
-- ==== Proof.Setup.lean ====
/-
  The launch as the proof sees it: the SparseCore configuration, the resource algebra, names for the arrays and for a subcore's
  scratch, and the sets of the id and result arrays' words each subcore works on.
-/
module

public import proofs.«01_k».proof.Defs
public import proofs.«01_k».proof.Proof.Value
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic

@[expose] public section

noncomputable section

namespace Cert.Proof.Mf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and a subcore's scratch -/

/-- The user ids, the item ids, the two tables as 125000 rows of 128, and the result, in HBM. -/
abbrev uA : Memref sig .scVector .hbm S16384 .i32 := .whole main_arg0_scv
abbrev iA : Memref sig .scVector .hbm S16384 .i32 := .whole main_arg1_scv
abbrev utA : Memref sig .scVector .hbm S125000x128 .f32 := .whole main_v0_scv
abbrev itA : Memref sig .scVector .hbm S125000x128 .f32 := .whole main_v1_scv
abbrev oA : Memref sig .scVector .hbm S16384 .f32 := .whole main_v2_scv
/-- A subcore's id lists, block lists, row buffers and result block. -/
abbrev uS : Memref sig .scVector .vmem S512 .i32 := .whole cc0_scratch0
abbrev iS : Memref sig .scVector .vmem S512 .i32 := .whole cc0_scratch1
abbrev ubS : Memref sig .scVector .vmem S256 .i32 := .whole cc0_scratch2
abbrev ibS : Memref sig .scVector .vmem S256 .i32 := .whole cc0_scratch3
abbrev urS : Memref sig .scVector .vmem S256x128 .f32 := .whole cc0_scratch4
abbrev irS : Memref sig .scVector .vmem S256x128 .f32 := .whole cc0_scratch5
abbrev oS : Memref sig .scVector .vmem S512 .f32 := .whole cc0_scratch6

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev utLoc (d : Dev nD) : Loc nD τ sig := (SparseCore.T d).loc main_v0
abbrev itLoc (d : Dev nD) : Loc nD τ sig := (SparseCore.T d).loc main_v1
abbrev oLoc (d : Dev nD) : Loc nD τ sig := (SparseCore.T d).loc main_v2

/-! ## The subcores' parts -/

/-- The SparseCore and the subcore at grid coordinates `L`, and the subcore's thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem bound_zero : grid0.bound 0 = 2 := rfl
theorem bound_one : grid0.bound 1 = 16 := rfl

/-- The number of the subcore at core `c`, subcore `s`, among the thirty-two. -/
def wid (c : Fin 2) (s : Fin 16) : Fin 32 := ⟨2 * s.val + c.val, by omega⟩
/-- The same, at grid coordinates. -/
abbrev widL (L : grid0.Coords) : Fin 32 := wid (Fin.cast bound_zero (L 0)) (Fin.cast bound_one (L 1))

theorem widL_val (L : grid0.Coords) : (widL L).val = 2 * (L 1).val + (L 0).val := rfl

theorem pdiv : 32 ∣ S16384.size 0 := ⟨512, rfl⟩
/-- The 512 consecutive words of subcore `w`. -/
abbrev part (w : Fin 32) : Rect S16384 := Rect.part (s := S16384) (a₀ := 0) pdiv w
abbrev partSet (w : Fin 32) : Finset S16384.Idx := (part w).set

abbrev partK (L : grid0.Coords) : Rect S16384 := Rect.unit (s := S16384) (k0_off1 L) S512.size (k0_off1_inb L)

theorem partK_eq (L : grid0.Coords) : partK L = part (widL L) := by
  unfold partK part Rect.part Rect.block
  congr 1 <;> funext a
  · rw [k0_off1_eq]
    match a with
    | 0 => have := widL_val L; simp [Shape.partIx, Shape.partSize] at this ⊢; omega
  · match a with
    | 0 => simp [Shape.partSize]

/-- The part as the kernel addresses it in the id arrays and in the result, and all of a table. -/
abbrev uK (L : grid0.Coords) : Memref sig .scVector .hbm S512 .i32 := (uA).slice (partK L) (fun _ => rfl)
abbrev iK (L : grid0.Coords) : Memref sig .scVector .hbm S512 .i32 := (iA).slice (partK L) (fun _ => rfl)
abbrev oK (L : grid0.Coords) : Memref sig .scVector .hbm S512 .f32 := (oA).slice (partK L) (fun _ => rfl)
abbrev utK : Memref sig .scVector .hbm S125000x128 .f32 := (utA).slice (Rect.unit (s := S125000x128) ![0, 0] S125000x128.size inb_S125000x128_S125000x128_0_0) (fun _ => rfl)
abbrev itK : Memref sig .scVector .hbm S125000x128 .f32 := (itA).slice (Rect.unit (s := S125000x128) ![0, 0] S125000x128.size inb_S125000x128_S125000x128_0_0) (fun _ => rfl)

theorem set_uK (L : grid0.Coords) : (uK L).view.set = partSet (widL L) := by
  show ((View.whole (main_arg0_scv : Ref sig .scVector)).slice (partK L)).set = _
  rw [View.set_slice, partK_eq]; exact Finset.map_refl
theorem set_iK (L : grid0.Coords) : (iK L).view.set = partSet (widL L) := by
  show ((View.whole (main_arg1_scv : Ref sig .scVector)).slice (partK L)).set = _
  rw [View.set_slice, partK_eq]; exact Finset.map_refl
theorem set_oK (L : grid0.Coords) : (oK L).view.set = partSet (widL L) := by
  show ((View.whole (main_v2_scv : Ref sig .scVector)).slice (partK L)).set = _
  rw [View.set_slice, partK_eq]; exact Finset.map_refl

/-- Word `j` of a subcore's part is word `512 w + j` of the array. -/
theorem emb_partK (L : grid0.Coords) (j : S512.Idx) : ((partK L).emb j 0).val = 512 * (widL L).val + (j 0).val := by
  show (k0_off1 L) 0 + 1 * (j 0).val = _
  rw [k0_off1_eq, widL_val]
  simp only [Matrix.cons_val_zero]
  omega

end Cert.Proof.Mf
end
-- ==== Proof.Lists.lean ====
/-
  The inner loop that makes the two block lists: after its sixteen trips each of the 256 words of a block list is the id at that place
  divided by eight. Also the reading and the storing of sixteen consecutive words, which the last loop shares.
-/
module

public import proofs.«01_k».proof.Proof.Setup

@[expose] public section

noncomputable section

namespace Cert.Proof.Mf

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Sixteen consecutive words of a whole buffer -/

/-- Word `n` of a vector of 512 words. -/
abbrev at512 {α : Type} (f : S512.Idx → α) (n : ℕ) : α := f (ix1 ⟨n % 512, Nat.mod_lt _ (by decide)⟩)

theorem at512_self {α : Type} (f : S512.Idx → α) (x : S512.Idx) (n : ℕ) (h : n = (x 0).val) : at512 f n = f x := by
  subst h
  unfold at512
  congr 1
  rw [eq_ix1 x]
  congr 1
  exact Fin.ext (Nat.mod_eq_of_lt (x 0).isLt)

section Sixteen

variable {κ : Kind} {sp : Space} {n : ℕ} {e : EltTy} (M : Memref sig κ sp ⟨1, ![n]⟩ e) {off : Fin 1 → ℕ}
  (inb : ∀ a, off a + S16.size a ≤ (⟨1, ![n]⟩ : Shape).size a) {o : ℕ} (ho : off = ![o])
include ho

/-- A load of the sixteen words at `o` reads word `o + x` at lane `x`. -/
theorem load16 (f : M.view.ty.Contents (Elt F)) (x : S16.Idx) (y : (⟨1, ![n]⟩ : Shape).Idx) (hy : (y 0).val = o + (x 0).val) :
    M.view.readAt (Elt F) (Rect.unit (s := ⟨1, ![n]⟩) off S16.size inb).toLoadRect f x = M.view.read (Elt F) f y := by
  subst ho
  rw [View.readAt_apply]
  congr 1
  funext a
  obtain rfl : a = 0 := Subsingleton.elim _ _
  refine Fin.ext ?_
  rw [LoadRect.idx_apply, hy]
  show o + 1 * (x 0).val = _
  omega

/-- A store of sixteen words at `o` leaves its lane `x` at word `o + x` -/
theorem store16_hit (f : M.view.ty.Contents (Elt F)) (w : S16.Idx → Elt F e) (x : S16.Idx) (y : (⟨1, ![n]⟩ : Shape).Idx)
    (hy : (y 0).val = o + (x 0).val) :
    M.view.read (Elt F) ((M.access (Rect.unit (s := ⟨1, ![n]⟩) off S16.size inb)).write (Elt F) f w Finset.univ) y = w x := by
  subst ho
  have he : (Rect.unit (s := ⟨1, ![n]⟩) ![o] S16.size inb).emb x = y := by
    funext a
    obtain rfl : a = 0 := Subsingleton.elim _ _
    refine Fin.ext ?_
    rw [hy]
    show o + 1 * (x 0).val = _
    omega
  rw [← he]
  exact View.read_slice_write_emb (v := M.view) (Rect.unit (s := ⟨1, ![n]⟩) ![o] S16.size inb) f w (M := Finset.univ) (x := x) (Finset.mem_univ _)

/-- and every word outside those sixteen as it was. -/
theorem store16_miss (f : M.view.ty.Contents (Elt F)) (w : S16.Idx → Elt F e) (y : (⟨1, ![n]⟩ : Shape).Idx)
    (hy : (y 0).val < o ∨ o + 16 ≤ (y 0).val) :
    M.view.read (Elt F) ((M.access (Rect.unit (s := ⟨1, ![n]⟩) off S16.size inb)).write (Elt F) f w Finset.univ) y = M.view.read (Elt F) f y := by
  subst ho
  refine View.read_slice_write_of_not_mem (v := M.view) (Rect.unit (s := ⟨1, ![n]⟩) ![o] S16.size inb) f w Finset.univ ?_
  intro h
  obtain ⟨x, -, hx⟩ := Finset.mem_map.mp h
  have h0 : (y 0).val = o + 1 * (x 0).val := by rw [← hx]; rfl
  have hx : (x 0).val < 16 := (x 0).isLt
  omega

end Sixteen

variable [FloatOps F] (d : Dev nD) (L : grid0.Coords)

/-- Words `0 … 16 k - 1` of a block list are the blocks of the ids at `o` onwards. -/
def Blocks (o k : ℕ) (f : S512.Idx → BitVec 32) (b : S256.Idx → BitVec 32) : Prop :=
  ∀ y : S256.Idx, (y 0).val < 16 * k → b y = IntOp.shrui .vector (at512 f (o + (y 0).val)) 3#32

/-- One trip of the list loop on one list: its store extends the blocks by sixteen words. -/
theorem blocks_step (r7 : Memref sig .scVector .vmem S512 .i32) (r9 : Memref sig .scVector .vmem S256 .i32) (t1 : Fin k0_t1_loop.trips) (t2 : Fin k0_t2_loop.trips)
    (f : r7.view.ty.Contents (Elt F)) (b : r9.view.ty.Contents (Elt F)) (pay : S16.Idx → BitVec 32)
    (hpay : ∀ x, pay x = IntOp.shrui .vector (r7.view.readAt (Elt F) (Rect.unit (s := S512) (k0_off2 t1 t2) S16.size (k0_off2_inb t1 t2)).toLoadRect f x) 3#32)
    (h : Blocks (256 * t1.val) t2.val (r7.view.read (Elt F) f) (r9.view.read (Elt F) b)) :
    Blocks (256 * t1.val) (t2.val + 1) (r7.view.read (Elt F) f)
      (r9.view.read (Elt F) ((r9.access (Rect.unit (s := S256) (k0_off3 t2) S16.size (k0_off3_inb t2))).write (Elt F) b pay Finset.univ)) := by
  have h1 : t1.val < 2 := lt_of_lt_of_le t1.isLt k0_t1_abs.2.1
  have h2 : t2.val < 16 := lt_of_lt_of_le t2.isLt k0_t2_abs.2.1
  intro y hy
  by_cases hlt : (y 0).val < 16 * t2.val
  · rw [store16_miss r9 (k0_off3_inb t2) (k0_off3_eq t2) b pay y (.inl hlt)]
    exact h y hlt
  · rw [store16_hit r9 (k0_off3_inb t2) (k0_off3_eq t2) b pay (ix1 ⟨(y 0).val - 16 * t2.val, by omega⟩) y
      (by show _ = 16 * t2.val + ((y 0).val - 16 * t2.val); omega), hpay,
      load16 r7 (k0_off2_inb t1 t2) (k0_off2_eq t1 t2) f _ (ix1 ⟨(256 * t1.val + (y 0).val) % 512, Nat.mod_lt _ (by decide)⟩)
        (by show (256 * t1.val + (y 0).val) % 512 = 256 * t1.val + 16 * t2.val + ((y 0).val - 16 * t2.val); omega)]

/-- The list loop's invariant before trip `k`. -/
def inv2 (o : ℕ) (fu fi : S512.Idx → Elt F .i32) (k : ℕ) (_ : Unit) : sProp 𝕄 :=
  iprop(((uS).view.loc (thr d L) ↦{fullShare} fu) ∗ ((iS).view.loc (thr d L) ↦{fullShare} fi)
    ∗ (∃ b : S256.Idx → Elt F .i32, ⌜Blocks o k fu b⌝ ∗ (ubS).view.loc (thr d L) ↦{fullShare} b)
    ∗ (∃ b : S256.Idx → Elt F .i32, ⌜Blocks o k fi b⌝ ∗ (ibS).view.loc (thr d L) ↦{fullShare} b))

/-- A trip of the list loop takes its invariant to the next. -/
theorem trip2 (t1 : Fin k0_t1_loop.trips) (fu fi : S512.Idx → Elt F .i32) (t2 : Fin k0_t2_loop.trips) (acc : Unit) :
    inv2 d L (256 * t1.val) fu fi t2.val acc ⊢ wp frame (wpE (defs₀ (F := F)) 𝒱₀ (thr d L) none) Set.univ
      (k0_t2_body L uA (Memref.isWhole_whole _) iA (Memref.isWhole_whole _) utA (Memref.isWhole_whole _) itA (Memref.isWhole_whole _) oA (Memref.isWhole_whole _)
        uS (Memref.isWhole_whole _) iS (Memref.isWhole_whole _) ubS (Memref.isWhole_whole _) ibS (Memref.isWhole_whole _) urS (Memref.isWhole_whole _)
        irS (Memref.isWhole_whole _) oS (Memref.isWhole_whole _) cc0_scratch7 cc0_scratch8 cc0_scoped0 cc0_scoped1 cc0_scoped2 t1 t2 acc)
      (inv2 d L (256 * t1.val) fu fi (t2.val + 1)) := by
  unfold inv2 k0_t2_body
  simp only [Prog.lift, Prog.bind_op, Prog.bind_ret, Prog.pure_eq_ret]
  iintro ⟨Hu, Hi, ⟨%bu, %hbu, Hbu⟩, ⟨%bi, %hbi, Hbi⟩⟩
  iapply (wp_load 𝒱₀ (thr d L) none Set.univ (m := uS) (S := Finset.univ) (Finset.subset_univ _)) $$ Hu; iintro Hu
  iapply (wp_load 𝒱₀ (thr d L) none Set.univ (m := ubS) (S := Finset.univ) (Finset.subset_univ _)) $$ Hbu; iintro Hbu
  iapply (wp_store 𝒱₀ (thr d L) none Set.univ (m := ubS) (r := Rect.unit (s := S256) (k0_off3 t2) S16.size (k0_off3_inb t2)) (Mk := Finset.univ) (S := Finset.univ) (Finset.subset_univ _)) $$ Hbu; iintro Hbu
  iapply (wp_load 𝒱₀ (thr d L) none Set.univ (m := iS) (S := Finset.univ) (Finset.subset_univ _)) $$ Hi; iintro Hi
  iapply (wp_load 𝒱₀ (thr d L) none Set.univ (m := ibS) (S := Finset.univ) (Finset.subset_univ _)) $$ Hbi; iintro Hbi
  iapply (wp_store 𝒱₀ (thr d L) none Set.univ (m := ibS) (r := Rect.unit (s := S256) (k0_off3 t2) S16.size (k0_off3_inb t2)) (Mk := Finset.univ) (S := Finset.univ) (Finset.subset_univ _)) $$ Hbi; iintro Hbi
  sl_step
  isplitl [Hu]; · iexact Hu
  isplitl [Hi]; · iexact Hi
  isplitl [Hbu]
  · iexists _; isplitr
    swap; · iexact Hbu
    ipureintro
    exact blocks_step uS ubS t1 t2 fu bu _ (fun _ => rfl) hbu
  · iexists _; isplitr
    swap; · iexact Hbi
    ipureintro
    exact blocks_step iS ibS t1 t2 fi bi _ (fun _ => rfl) hbi

theorem trips2 : k0_t2_loop.trips = 16 := by decide +kernel

end Cert.Proof.Mf
end
-- ==== Proof.Rows.lean ====
/-
  The innermost loop: each trip picks sixteen words per table-row entry out of the two row buffers, sums the sixteen products and
  stores sixteen scores.
-/
module

public import proofs.«01_k».proof.Proof.Lists

@[expose] public section

noncomputable section

namespace Cert.Proof.Mf

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

/-! ## A checked pick out of a row buffer -/

omit [FloatOps F] in
theorem read_access_whole {κ : Kind} {sp : Space} {s : Shape} {e : EltTy} (M : Memref sig κ sp s e) (f : M.view.ty.Contents (Elt F)) :
    (M.access (.whole s)).read (Elt F) f = M.view.read (Elt F) f := by
  funext x
  rw [View.read_apply, View.read_apply]
  have : (M.access (.whole s)).emb x = M.view.emb x := by
    show M.view.emb ((Rect.whole s).emb x) = M.view.emb x
    congr 1
    funext a
    refine Fin.ext ?_
    show 0 + 1 * (x a).val = _
    omega
  rw [this]

/-- The printed check of a row vector and a column vector, then the pick: with the check true, the program continues at the picked words. -/
theorem wp_pick {α : Type} {Q : α → sProp 𝕄} (M : Memref sig Kind.scVector .vmem S256x128 .f32) {P : Prop} {dP : Decidable P} (hP : P) {r c : IVec S16 32}
    {h : PLift P → ∀ a x, ((![r, c] : Fin 2 → IVec S16 32) a x).toNat < S256x128.size a} {hl : M.view.Loads}
    {k : Vec F S16 .f32 → Prog (TpuEff nD τ sig (Elt F) Λ₀ (thr d L).2) α} {f : M.view.ty.Contents (Elt F)} :
    (M.view.loc (thr d L) ↦{fullShare} f : sProp 𝕄)
      ⊢ iprop(((M.view.loc (thr d L) ↦{fullShare} f) -∗ wp frame (wpE (defs₀ (F := F)) 𝒱₀ (thr d L) none) Set.univ (k (pick (M.view.read (Elt F) f) r c)) Q)
        -∗ wp frame (wpE (defs₀ (F := F)) 𝒱₀ (thr d L) none) Set.univ
            (.op (.assume P dP) fun x => SparseCore.vectorLoadIdx M (![r, c] : Fin 2 → IVec S16 32) (h x) hl >>= k) Q) := by
  rw [wp_assume_of _ _ _ _ hP]
  have e := loadIdx_eq_pick ((M.access (.whole S256x128)).read (Elt F) f) r c (h ⟨hP⟩)
  rw [read_access_whole] at e
  have := SparseCore.wp_vectorLoadIdx (defs := defs₀ (F := F)) (Q := Q) 𝒱₀ (thr d L) none Set.univ (base := M) (idxs := (![r, c] : Fin 2 → IVec S16 32)) (h := h ⟨hP⟩) (hl := hl) (k := k)
    (S := Finset.univ) (q := fullShare) (f := f) (Finset.subset_univ _)
  rw [read_access_whole] at this
  rw [← e]
  exact this

/-! ## The three printed parts of a trip -/

/-- The row words of trip `g`, each below 256. -/
abbrev rowsV (g : Fin k0_t3_loop.trips) : IVec S16 32 := k0_pay12 (iota .scVector S16 32 [0] iota_S16_d0_w32_scVector) 0#32 1#32 g

theorem rowsV_lt (g : Fin k0_t3_loop.trips) (x : S16.Idx) : (rowsV g x).toNat < 256 := by
  have hg : g.val < 16 := lt_of_lt_of_le g.isLt k0_t3_abs.2.1
  have hx : (x 0).val < 16 := (x 0).isLt
  rw [toNat_rows]
  omega

/-- The two row buffers at contents `R` and `Q`. -/
def RowBufs (R Q : S256x128.Idx → Elt F .f32) : sProp 𝕄 :=
  iprop(((urS).view.loc (thr d L) ↦{fullShare} R) ∗ (irS).view.loc (thr d L) ↦{fullShare} Q)

/-- The sixteen ids a trip reads off an id list. -/
abbrev ids (M : Memref sig .scVector .vmem S512 .i32) (t1 : Fin k0_t1_loop.trips) (g : Fin k0_t3_loop.trips) (f : M.view.ty.Contents (Elt F)) : Vec F S16 .i32 :=
  M.view.readAt (Elt F) (Rect.unit (s := S512) (k0_off4 t1 g) S16.size (k0_off4_inb t1 g)).toLoadRect f

/-- The first part: the sixteen ids of each list and the first three products. -/
theorem part1_run (t1 : Fin k0_t1_loop.trips) (g : Fin k0_t3_loop.trips) (v5 : BitVec 32) (fu fi : S512.Idx → Elt F .i32) (R Q : S256x128.Idx → Elt F .f32)
    (u i : Vec F S16 .i32) (hu : ids uS t1 g fu = u) (hi : ids iS t1 g fi = i) :
    iprop(((uS).view.loc (thr d L) ↦{fullShare} fu) ∗ ((iS).view.loc (thr d L) ↦{fullShare} fi) ∗ RowBufs d L R Q) ⊢ wp frame (wpE (defs₀ (F := F)) 𝒱₀ (thr d L) none) Set.univ
      (k0_part1 L uA (Memref.isWhole_whole _) iA (Memref.isWhole_whole _) utA (Memref.isWhole_whole _) itA (Memref.isWhole_whole _) oA (Memref.isWhole_whole _)
        uS (Memref.isWhole_whole _) iS (Memref.isWhole_whole _) ubS (Memref.isWhole_whole _) ibS (Memref.isWhole_whole _) urS (Memref.isWhole_whole _)
        irS (Memref.isWhole_whole _) oS (Memref.isWhole_whole _) cc0_scratch7 cc0_scratch8 cc0_scoped0 cc0_scoped1 cc0_scoped2
        (iota .scVector S16 32 [0] iota_S16_d0_w32_scVector) t1 v5 0#32 1#32 g)
      fun r => iprop(⌜r = ⟨Scalar.muli (Scf.iv 0#32 1#32 g) 16#32, k0_pay10 u, k0_pay11 i, rowsV g,
          k0_pay17 (pick R (rowsV g) (k0_pay13 u)) (pick Q (rowsV g) (k0_pay14 i)) (pick R (rowsV g) (k0_pay15 u)) (pick Q (rowsV g) (k0_pay16 i)),
          k0_pay20 (pick R (rowsV g) (k0_pay18 u)) (pick Q (rowsV g) (k0_pay19 i))⟩⌝
        ∗ ((uS).view.loc (thr d L) ↦{fullShare} fu) ∗ ((iS).view.loc (thr d L) ↦{fullShare} fi) ∗ RowBufs d L R Q) := by
  subst hu hi
  rw [k0_part1_eq_skeleton]
  unfold RowBufs k0_part1_skel
  simp only [Prog.lift, Prog.bind_op, Prog.bind_ret, Prog.pure_eq_ret]
  iintro ⟨Hu, Hi, Hr, Hq⟩
  iapply (wp_load 𝒱₀ (thr d L) none Set.univ (m := uS) (S := Finset.univ) (Finset.subset_univ _)) $$ Hu; iintro Hu
  iapply (wp_load 𝒱₀ (thr d L) none Set.univ (m := iS) (S := Finset.univ) (Finset.subset_univ _)) $$ Hi; iintro Hi
  iapply (wp_pick d L urS (chk_ok (rowsV g) _ (rowsV_lt g) fun x => colw_lt (ids uS t1 g fu x) 0#32 (by decide))) $$ Hr; iintro Hr
  iapply (wp_pick d L irS (chk_ok (rowsV g) _ (rowsV_lt g) fun x => colw_lt (ids iS t1 g fi x) 0#32 (by decide))) $$ Hq; iintro Hq
  iapply (wp_pick d L urS (chk_ok (rowsV g) _ (rowsV_lt g) fun x => colw_lt (ids uS t1 g fu x) 1#32 (by decide))) $$ Hr; iintro Hr
  iapply (wp_pick d L irS (chk_ok (rowsV g) _ (rowsV_lt g) fun x => colw_lt (ids iS t1 g fi x) 1#32 (by decide))) $$ Hq; iintro Hq
  iapply (wp_pick d L urS (chk_ok (rowsV g) _ (rowsV_lt g) fun x => colw_lt (ids uS t1 g fu x) 2#32 (by decide))) $$ Hr; iintro Hr
  iapply (wp_pick d L irS (chk_ok (rowsV g) _ (rowsV_lt g) fun x => colw_lt (ids iS t1 g fi x) 2#32 (by decide))) $$ Hq; iintro Hq
  sl_step
  isplitr; · ipureintro; rfl
  isplitl [Hu]; · iexact Hu
  isplitl [Hi]; · iexact Hi
  isplitl [Hr] <;> iassumption

/-- The second part: the next five products, four of them summed. -/
theorem part2_run (g : Fin k0_t3_loop.trips) (u i : Vec F S16 .i32) (a b : FVec F S16 .f32) (R Q : S256x128.Idx → Elt F .f32) :
    RowBufs d L R Q ⊢ wp frame (wpE (defs₀ (F := F)) 𝒱₀ (thr d L) none) Set.univ
      (k0_part2 L uA (Memref.isWhole_whole _) iA (Memref.isWhole_whole _) utA (Memref.isWhole_whole _) itA (Memref.isWhole_whole _) oA (Memref.isWhole_whole _)
        uS (Memref.isWhole_whole _) iS (Memref.isWhole_whole _) ubS (Memref.isWhole_whole _) ibS (Memref.isWhole_whole _) urS (Memref.isWhole_whole _)
        irS (Memref.isWhole_whole _) oS (Memref.isWhole_whole _) cc0_scratch7 cc0_scratch8 cc0_scoped0 cc0_scoped1 cc0_scoped2
        (k0_pay10 u) (k0_pay11 i) (rowsV g) a b)
      fun r => iprop(⌜r = ⟨k0_pay29 a b
        (pick R (rowsV g) (k0_pay21 (k0_pay10 u))) (pick Q (rowsV g) (k0_pay22 (k0_pay11 i))) (pick R (rowsV g) (k0_pay23 (k0_pay10 u))) (pick Q (rowsV g) (k0_pay24 (k0_pay11 i)))
        (pick R (rowsV g) (k0_pay25 (k0_pay10 u))) (pick Q (rowsV g) (k0_pay26 (k0_pay11 i))) (pick R (rowsV g) (k0_pay27 (k0_pay10 u))) (pick Q (rowsV g) (k0_pay28 (k0_pay11 i))),
        k0_pay32 (pick R (rowsV g) (k0_pay30 (k0_pay10 u))) (pick Q (rowsV g) (k0_pay31 (k0_pay11 i)))⟩⌝ ∗ RowBufs d L R Q) := by
  rw [k0_part2_eq_skeleton]
  unfold RowBufs k0_part2_skel
  simp only [Prog.lift, Prog.bind_op, Prog.bind_ret, Prog.pure_eq_ret]
  iintro ⟨Hr, Hq⟩
  iapply (wp_pick d L urS (chk_ok (rowsV g) _ (rowsV_lt g) fun x => colw_lt (u x) 3#32 (by decide))) $$ Hr; iintro Hr
  iapply (wp_pick d L irS (chk_ok (rowsV g) _ (rowsV_lt g) fun x => colw_lt (i x) 3#32 (by decide))) $$ Hq; iintro Hq
  iapply (wp_pick d L urS (chk_ok (rowsV g) _ (rowsV_lt g) fun x => colw_lt (u x) 4#32 (by decide))) $$ Hr; iintro Hr
  iapply (wp_pick d L irS (chk_ok (rowsV g) _ (rowsV_lt g) fun x => colw_lt (i x) 4#32 (by decide))) $$ Hq; iintro Hq
  iapply (wp_pick d L urS (chk_ok (rowsV g) _ (rowsV_lt g) fun x => colw_lt (u x) 5#32 (by decide))) $$ Hr; iintro Hr
  iapply (wp_pick d L irS (chk_ok (rowsV g) _ (rowsV_lt g) fun x => colw_lt (i x) 5#32 (by decide))) $$ Hq; iintro Hq
  iapply (wp_pick d L urS (chk_ok (rowsV g) _ (rowsV_lt g) fun x => colw_lt (u x) 6#32 (by decide))) $$ Hr; iintro Hr
  iapply (wp_pick d L irS (chk_ok (rowsV g) _ (rowsV_lt g) fun x => colw_lt (i x) 6#32 (by decide))) $$ Hq; iintro Hq
  iapply (wp_pick d L urS (chk_ok (rowsV g) _ (rowsV_lt g) fun x => colw_lt (u x) 7#32 (by decide))) $$ Hr; iintro Hr
  iapply (wp_pick d L irS (chk_ok (rowsV g) _ (rowsV_lt g) fun x => colw_lt (i x) 7#32 (by decide))) $$ Hq; iintro Hq
  sl_step
  isplitr; · ipureintro; rfl
  isplitl [Hr] <;> iassumption

/-- The third part: the next five products, four of them summed. -/
theorem part3_run (g : Fin k0_t3_loop.trips) (u i : Vec F S16 .i32) (a b : FVec F S16 .f32) (R Q : S256x128.Idx → Elt F .f32) :
    RowBufs d L R Q ⊢ wp frame (wpE (defs₀ (F := F)) 𝒱₀ (thr d L) none) Set.univ
      (k0_part3 L uA (Memref.isWhole_whole _) iA (Memref.isWhole_whole _) utA (Memref.isWhole_whole _) itA (Memref.isWhole_whole _) oA (Memref.isWhole_whole _)
        uS (Memref.isWhole_whole _) iS (Memref.isWhole_whole _) ubS (Memref.isWhole_whole _) ibS (Memref.isWhole_whole _) urS (Memref.isWhole_whole _)
        irS (Memref.isWhole_whole _) oS (Memref.isWhole_whole _) cc0_scratch7 cc0_scratch8 cc0_scoped0 cc0_scoped1 cc0_scoped2
        (k0_pay10 u) (k0_pay11 i) (rowsV g) a b)
      fun r => iprop(⌜r = ⟨k0_pay41 a b
        (pick R (rowsV g) (k0_pay33 (k0_pay10 u))) (pick Q (rowsV g) (k0_pay34 (k0_pay11 i))) (pick R (rowsV g) (k0_pay35 (k0_pay10 u))) (pick Q (rowsV g) (k0_pay36 (k0_pay11 i)))
        (pick R (rowsV g) (k0_pay37 (k0_pay10 u))) (pick Q (rowsV g) (k0_pay38 (k0_pay11 i))) (pick R (rowsV g) (k0_pay39 (k0_pay10 u))) (pick Q (rowsV g) (k0_pay40 (k0_pay11 i))),
        k0_pay44 (pick R (rowsV g) (k0_pay42 (k0_pay10 u))) (pick Q (rowsV g) (k0_pay43 (k0_pay11 i)))⟩⌝ ∗ RowBufs d L R Q) := by
  rw [k0_part3_eq_skeleton]
  unfold RowBufs k0_part3_skel
  simp only [Prog.lift, Prog.bind_op, Prog.bind_ret, Prog.pure_eq_ret]
  iintro ⟨Hr, Hq⟩
  iapply (wp_pick d L urS (chk_ok (rowsV g) _ (rowsV_lt g) fun x => colw_lt (u x) 8#32 (by decide))) $$ Hr; iintro Hr
  iapply (wp_pick d L irS (chk_ok (rowsV g) _ (rowsV_lt g) fun x => colw_lt (i x) 8#32 (by decide))) $$ Hq; iintro Hq
  iapply (wp_pick d L urS (chk_ok (rowsV g) _ (rowsV_lt g) fun x => colw_lt (u x) 9#32 (by decide))) $$ Hr; iintro Hr
  iapply (wp_pick d L irS (chk_ok (rowsV g) _ (rowsV_lt g) fun x => colw_lt (i x) 9#32 (by decide))) $$ Hq; iintro Hq
  iapply (wp_pick d L urS (chk_ok (rowsV g) _ (rowsV_lt g) fun x => colw_lt (u x) 10#32 (by decide))) $$ Hr; iintro Hr
  iapply (wp_pick d L irS (chk_ok (rowsV g) _ (rowsV_lt g) fun x => colw_lt (i x) 10#32 (by decide))) $$ Hq; iintro Hq
  iapply (wp_pick d L urS (chk_ok (rowsV g) _ (rowsV_lt g) fun x => colw_lt (u x) 11#32 (by decide))) $$ Hr; iintro Hr
  iapply (wp_pick d L irS (chk_ok (rowsV g) _ (rowsV_lt g) fun x => colw_lt (i x) 11#32 (by decide))) $$ Hq; iintro Hq
  iapply (wp_pick d L urS (chk_ok (rowsV g) _ (rowsV_lt g) fun x => colw_lt (u x) 12#32 (by decide))) $$ Hr; iintro Hr
  iapply (wp_pick d L irS (chk_ok (rowsV g) _ (rowsV_lt g) fun x => colw_lt (i x) 12#32 (by decide))) $$ Hq; iintro Hq
  sl_step
  isplitr; · ipureintro; rfl
  isplitl [Hr] <;> iassumption

/-! ## A trip and its invariant -/

/-- Words `0 … n - 1` of the result block are the scores of the ids at those places. -/
def Done (ut it : S125000x128.Idx → Elt F .f32) (fu fi : S512.Idx → BitVec 32) (n : ℕ) (s : S512.Idx → Elt F .f32) : Prop :=
  ∀ y : S512.Idx, (y 0).val < n → s y = dot ut it (fu y) (fi y) 16

/-- Row `r` of a row buffer is the table row of the id at `o + r`. -/
def Fetched (t : S125000x128.Idx → Elt F .f32) (f : S512.Idx → BitVec 32) (o : ℕ) (R : S256x128.Idx → Elt F .f32) : Prop :=
  ∀ (r : Fin 256) (c : Fin 128), R (ix2 r c) = t (ix2 ⟨(at512 f (o + r.val)).toNat / 8 % 125000, Nat.mod_lt _ (by decide)⟩ c)

/-- The innermost loop's invariant before trip `k`. -/
def inv3 (ut it : S125000x128.Idx → Elt F .f32) (o : ℕ) (fu fi : S512.Idx → Elt F .i32) (R Q : S256x128.Idx → Elt F .f32) (k : ℕ) (_ : Unit) : sProp 𝕄 :=
  iprop(((uS).view.loc (thr d L) ↦{fullShare} fu) ∗ ((iS).view.loc (thr d L) ↦{fullShare} fi) ∗ RowBufs d L R Q
    ∗ (∃ s : S512.Idx → Elt F .f32, ⌜Done ut it fu fi (o + 16 * k) s⌝ ∗ (oS).view.loc (thr d L) ↦{fullShare} s))

/-- The store of a trip extends the scores done by sixteen. -/
theorem done_step (ut it : S125000x128.Idx → Elt F .f32) (t1 : Fin k0_t1_loop.trips) (g : Fin k0_t3_loop.trips) (fu fi : S512.Idx → Elt F .i32)
    (R Q : S256x128.Idx → Elt F .f32) (hR : Fetched ut fu (256 * t1.val) R) (hQ : Fetched it fi (256 * t1.val) Q) (s : S512.Idx → Elt F .f32)
    (h : Done ut it fu fi (256 * t1.val + 16 * g.val) s) :
    Done ut it fu fi (256 * t1.val + 16 * (g.val + 1))
      ((oS.access (Rect.unit (s := S512) (k0_off5 t1 g) S16.size (k0_off5_inb t1 g))).write (Elt F) s (total R Q (rowsV g) (ids uS t1 g fu) (ids iS t1 g fi)) Finset.univ) := by
  have h1 : t1.val < 2 := lt_of_lt_of_le t1.isLt k0_t1_abs.2.1
  have h2 : g.val < 16 := lt_of_lt_of_le g.isLt k0_t3_abs.2.1
  intro y hy
  have hy5 : (y 0).val < 512 := (y 0).isLt
  by_cases hlt : (y 0).val < 256 * t1.val + 16 * g.val
  · refine Eq.trans ?_ (h y hlt)
    exact store16_miss oS (k0_off5_inb t1 g) (k0_off5_eq t1 g) s _ y (.inl hlt)
  · let x : S16.Idx := ix1 ⟨(y 0).val - (256 * t1.val + 16 * g.val), by omega⟩
    have hx : (x 0).val = (y 0).val - (256 * t1.val + 16 * g.val) := rfl
    refine (store16_hit oS (k0_off5_inb t1 g) (k0_off5_eq t1 g) s _ x y (by omega)).trans ?_
    have hu : ids uS t1 g fu x = fu y := load16 uS (k0_off4_inb t1 g) (k0_off4_eq t1 g) fu x y (by omega)
    have hi : ids iS t1 g fi x = fi y := load16 iS (k0_off4_inb t1 g) (k0_off4_eq t1 g) fi x y (by omega)
    have hr : (rowsV g x).toNat = 16 * g.val + (x 0).val := toNat_rows g x
    have hn : 256 * t1.val + (rowsV g x).toNat % 256 = (y 0).val := by omega
    rw [total_apply R Q ut it (rowsV g) (ids uS t1 g fu) (ids iS t1 g fi) x
      (fun c => by rw [hR, hu]; congr 4; exact congrArg (fun w => BitVec.toNat w / 8) (at512_self fu y _ hn))
      (fun c => by rw [hQ, hi]; congr 4; exact congrArg (fun w => BitVec.toNat w / 8) (at512_self fi y _ hn)), hu, hi]

/-- A trip of the innermost loop takes its invariant to the next. -/
theorem trip3 (ut it : S125000x128.Idx → Elt F .f32) (t1 : Fin k0_t1_loop.trips) (v5 : BitVec 32) (fu fi : S512.Idx → Elt F .i32)
    (R Q : S256x128.Idx → Elt F .f32) (hR : Fetched ut fu (256 * t1.val) R) (hQ : Fetched it fi (256 * t1.val) Q) (g : Fin k0_t3_loop.trips) (acc : Unit) :
    inv3 d L ut it (256 * t1.val) fu fi R Q g.val acc ⊢ wp frame (wpE (defs₀ (F := F)) 𝒱₀ (thr d L) none) Set.univ
      (k0_t3_body L uA (Memref.isWhole_whole _) iA (Memref.isWhole_whole _) utA (Memref.isWhole_whole _) itA (Memref.isWhole_whole _) oA (Memref.isWhole_whole _)
        uS (Memref.isWhole_whole _) iS (Memref.isWhole_whole _) ubS (Memref.isWhole_whole _) ibS (Memref.isWhole_whole _) urS (Memref.isWhole_whole _)
        irS (Memref.isWhole_whole _) oS (Memref.isWhole_whole _) cc0_scratch7 cc0_scratch8 cc0_scoped0 cc0_scoped1 cc0_scoped2
        (iota .scVector S16 32 [0] iota_S16_d0_w32_scVector) t1 v5 g acc)
      (inv3 d L ut it (256 * t1.val) fu fi R Q (g.val + 1)) := by
  unfold inv3 k0_t3_body
  rw [wp_bind]
  iintro ⟨Hu, Hi, Hrb, ⟨%s, %hs, Ho⟩⟩
  iapply (wp_wand_r frame (wpE (defs₀ (F := F)) 𝒱₀ (thr d L) none) Set.univ)
  isplitl [Hu Hi Hrb]
  · iapply (part1_run d L t1 g v5 fu fi R Q (ids uS t1 g fu) (ids iS t1 g fi) rfl rfl)
    isplitl [Hu]; · iexact Hu
    isplitl [Hi]; · iexact Hi
    iexact Hrb
  iintro %r1 ⟨%h1, Hu, Hi, Hrb⟩
  subst h1
  dsimp only
  rw [wp_bind]
  iapply (wp_wand_r frame (wpE (defs₀ (F := F)) 𝒱₀ (thr d L) none) Set.univ)
  isplitl [Hrb]
  · iapply (part2_run d L g (ids uS t1 g fu) (ids iS t1 g fi) _ _ R Q)
    iexact Hrb
  iintro %r2 ⟨%h2, Hrb⟩
  subst h2
  dsimp only
  rw [wp_bind]
  iapply (wp_wand_r frame (wpE (defs₀ (F := F)) 𝒱₀ (thr d L) none) Set.univ)
  isplitl [Hrb]
  · iapply (part3_run d L g (ids uS t1 g fu) (ids iS t1 g fi) _ _ R Q)
    iexact Hrb
  iintro %r3 ⟨%h3, Hrb⟩
  subst h3
  dsimp only
  simp only [Prog.lift, Prog.bind_op, Prog.bind_ret, Prog.pure_eq_ret]
  unfold RowBufs
  icases Hrb with ⟨Hr, Hq⟩
  iapply (wp_pick d L urS (chk_ok (rowsV g) _ (rowsV_lt g) fun x => colw_lt (ids uS t1 g fu x) 13#32 (by decide))) $$ Hr; iintro Hr
  iapply (wp_pick d L irS (chk_ok (rowsV g) _ (rowsV_lt g) fun x => colw_lt (ids iS t1 g fi x) 13#32 (by decide))) $$ Hq; iintro Hq
  iapply (wp_pick d L urS (chk_ok (rowsV g) _ (rowsV_lt g) fun x => colw_lt (ids uS t1 g fu x) 14#32 (by decide))) $$ Hr; iintro Hr
  iapply (wp_pick d L irS (chk_ok (rowsV g) _ (rowsV_lt g) fun x => colw_lt (ids iS t1 g fi x) 14#32 (by decide))) $$ Hq; iintro Hq
  iapply (wp_pick d L urS (chk_ok (rowsV g) _ (rowsV_lt g) fun x => colw_lt (ids uS t1 g fu x) 15#32 (by decide))) $$ Hr; iintro Hr
  iapply (wp_pick d L irS (chk_ok (rowsV g) _ (rowsV_lt g) fun x => colw_lt (ids iS t1 g fi x) 15#32 (by decide))) $$ Hq; iintro Hq
  iapply (wp_load 𝒱₀ (thr d L) none Set.univ (m := oS) (S := Finset.univ) (Finset.subset_univ _)) $$ Ho; iintro Ho
  iapply (wp_store 𝒱₀ (thr d L) none Set.univ (m := oS) (r := Rect.unit (s := S512) (k0_off5 t1 g) S16.size (k0_off5_inb t1 g)) (Mk := Finset.univ) (S := Finset.univ) (Finset.subset_univ _)) $$ Ho; iintro Ho
  sl_step
  isplitl [Hu]; · iexact Hu
  isplitl [Hi]; · iexact Hi
  isplitl [Hr Hq]; · isplitl [Hr] <;> iassumption
  iexists _; isplitr
  swap; · iexact Ho
  ipureintro
  exact done_step ut it t1 g fu fi R Q hR hQ s hs

theorem trips3 : k0_t3_loop.trips = 16 := by decide +kernel
theorem trips1 : k0_t1_loop.trips = 2 := by decide +kernel

end Cert.Proof.Mf
end
-- ==== Proof.Tile.lean ====
/-
  One subcore's task: the two id blocks fetched, two rounds of gathers and scores, the scores written out.
-/
module

public import proofs.«01_k».proof.Proof.Rows

@[expose] public section

noncomputable section

namespace Cert.Proof.Mf

open Cert.KernelIdeal Cert.KernelIdeal.Gen

open Idealize.ShloMosaic
open Idealize.ShloMosaic.ValueIdx (ix1 ix2 eq_ix1 eq_ix2)
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

/-! ## What a gather lands -/

/-- Every word of a full block list names a table row. -/
theorem blocks_lt {o : ℕ} {f : S512.Idx → BitVec 32} (hf : ∀ x, (f x).toNat < 1000000) {b : S256.Idx → BitVec 32} (hb : Blocks o 16 f b) (x : S256.Idx) :
    (b x).toNat < 125000 := by
  rw [hb x (x 0).isLt, toNat_shr3]
  have := hf (ix1 ⟨(o + (x 0).val) % 512, Nat.mod_lt _ (by decide)⟩)
  unfold at512
  omega

/-- A gather of table `t` along a full block list lands the rows of the ids the list was made from. -/
theorem fetched_gather {o : ℕ} (t : S125000x128.Idx → Elt F .f32) {t' : S125000x128.Idx → Elt F .f32} (ht : t' = t) {f : S512.Idx → BitVec 32} (hf : ∀ x, (f x).toNat < 1000000)
    {b : S256.Idx → BitVec 32} (hb : Blocks o 16 f b) (hn : S256.numel = S256x128.size gathers_S125000x128_S256x128.axis')
    (hin : ∀ x, (b x).toNat < S125000x128.size gathers_S125000x128_S256x128.axis) :
    Fetched t f o (SparseCore.gatherPayload (F := F) (e := .f32) gathers_S125000x128_S256x128 t' (SparseCore.rows (F := F) b hn hin)) := by
  subst ht
  intro r c
  unfold SparseCore.gatherPayload
  congr 1
  funext a
  refine Fin.ext ?_
  match a with
  | 0 =>
    have e : ∀ k : Fin (S256x128.size gathers_S125000x128_S256x128.axis'), (SparseCore.rows (F := F) b hn hin k).val = (at512 f (o + k.val)).toNat / 8 := by
      intro k
      show (b (S256.rowMajor.symm (k.cast hn.symm))).toNat = _
      have hk : ((S256.rowMajor.symm (k.cast hn.symm)) 0).val = k.val := by
        rw [← Shape.rowMajor_val_one (S256.rowMajor.symm (k.cast hn.symm)), Equiv.apply_symm_apply]; rfl
      rw [hb _ (by have := ((S256.rowMajor.symm (k.cast hn.symm)) 0).isLt; exact this), toNat_shr3, hk]
    have h1 : (gathers_S125000x128_S256x128.idx (SparseCore.rows (F := F) b hn hin) (ix2 r c) gathers_S125000x128_S256x128.axis).val = (at512 f (o + r.val)).toNat / 8 := by
      rw [Shape.Gathers.idx_axis, e]
    refine h1.trans ?_
    show _ = (at512 f (o + r.val)).toNat / 8 % 125000
    have := hf (ix1 ⟨(o + r.val) % 512, Nat.mod_lt _ (by decide)⟩)
    unfold at512
    omega
  | 1 => exact Shape.Gathers.idx_of_ne gathers_S125000x128_S256x128 _ (ix2 r c) 1 (by decide)

/-- All of a table, read through the slice at row 0 and column 0, is the table. -/
theorem read_utK (f : S125000x128.Idx → Elt F .f32) : (utK).view.read (Elt F) f = f := by
  funext x
  rw [View.read_apply]
  refine (cast_eq _ _).trans (congrArg f ?_)
  funext a
  refine Fin.ext ?_
  match a with
  | 0 => show 0 + 1 * (x 0).val = _; omega
  | 1 => show 0 + 1 * (x 1).val = _; omega
theorem read_itK (f : S125000x128.Idx → Elt F .f32) : (itK).view.read (Elt F) f = f := by
  funext x
  rw [View.read_apply]
  refine (cast_eq _ _).trans (congrArg f ?_)
  funext a
  refine Fin.ext ?_
  match a with
  | 0 => show 0 + 1 * (x 0).val = _; omega
  | 1 => show 0 + 1 * (x 1).val = _; omega

/-- The rows of a row buffer are credited, together, what the buffer is. -/
theorem credit_ur (h : S125000x128.Gathers 0 S256x128) :
    ∑ j, ((urS).slice (S256x128.rowRect h.axis' j) (S256x128.stride_rowRect h.axis' j)).view.dmaCredit = (urS).view.dmaCredit := by
  decide +kernel +revert
theorem credit_ir (h : S125000x128.Gathers 0 S256x128) :
    ∑ j, ((irS).slice (S256x128.rowRect h.axis' j) (S256x128.stride_rowRect h.axis' j)).view.dmaCredit = (irS).view.dmaCredit := by
  decide +kernel +revert

/-! ## The round loop -/

/-- A subcore's cell of a semaphore. -/
abbrev cell (s : DmaSem sig) : GSem nD τ sig := (thr d L, .dma s)

/-- The round loop's invariant before round `k`: the ids as fetched, the scores of the first `256 k` ids in the result block, and the
    tables, the gathers' semaphores and the waits as they stand. -/
def inv1 (q : PosShare TreeShare) (O : CellTallies nD τ sig (HIx 1)) (W : Waits sig (HIx 1)) (ut it : S125000x128.Idx → Elt F .f32)
    (fu fi : S512.Idx → Elt F .i32) (k : ℕ) (_ : Unit) : sProp 𝕄 :=
  iprop(((uS).view.loc (thr d L) ↦{fullShare} fu) ∗ ((iS).view.loc (thr d L) ↦{fullShare} fi)
    ∗ (∃ b, (ubS).view.loc (thr d L) ↦{fullShare} b) ∗ (∃ b, (ibS).view.loc (thr d L) ↦{fullShare} b)
    ∗ (∃ R, (urS).view.loc (thr d L) ↦{fullShare} R) ∗ (∃ Q, (irS).view.loc (thr d L) ↦{fullShare} Q)
    ∗ (∃ s : S512.Idx → Elt F .f32, ⌜Done ut it fu fi (256 * k) s⌝ ∗ (oS).view.loc (thr d L) ↦{fullShare} s)
    ∗ ((utA).view.loc (thr d L) ↦{q} ut) ∗ ((itA).view.loc (thr d L) ↦{q} it)
    ∗ semVal (cell d L cc0_scratch7.sem) 0 ∗ semVal (cell d L cc0_scratch8.sem) 0
    ∗ Transfers.MayWaits (thr d L) (default : HIx 1) O
    ∗ ∃ W', ⌜∀ p ∈ W', p ∈ W ∨ p.2 = none⌝ ∗ owes (thr d L) O W')

set_option maxHeartbeats 4000000 in
/-- A round takes its invariant to the next: the block lists made, the rows of both tables gathered along them, the scores summed. -/
theorem trip1 (q : PosShare TreeShare) (O : CellTallies nD τ sig (HIx 1)) (W : Waits sig (HIx 1)) (ut it : S125000x128.Idx → Elt F .f32)
    (fu fi : S512.Idx → Elt F .i32) (hu : ∀ x, (fu x : BitVec 32).toNat < 1000000) (hi : ∀ x, (fi x : BitVec 32).toNat < 1000000)
    (t1 : Fin k0_t1_loop.trips) (acc : Unit) :
    inv1 d L q O W ut it fu fi t1.val acc ⊢ wp frame (wpE (defs₀ (F := F)) 𝒱₀ (thr d L) none) Set.univ
      (k0_t1_body L uA (Memref.isWhole_whole _) iA (Memref.isWhole_whole _) utA (Memref.isWhole_whole _) itA (Memref.isWhole_whole _) oA (Memref.isWhole_whole _)
        uS (Memref.isWhole_whole _) iS (Memref.isWhole_whole _) ubS (Memref.isWhole_whole _) ibS (Memref.isWhole_whole _) urS (Memref.isWhole_whole _)
        irS (Memref.isWhole_whole _) oS (Memref.isWhole_whole _) cc0_scratch7 cc0_scratch8 cc0_scoped0 cc0_scoped1 cc0_scoped2
        (iota .scVector S16 32 [0] iota_S16_d0_w32_scVector) t1 acc)
      (inv1 d L q O W ut it fu fi (t1.val + 1)) := by
  unfold inv1 k0_t1_body
  dsimp only
  iintro ⟨Hu, Hi, ⟨%bu, Hbu⟩, ⟨%bi, Hbi⟩, ⟨%R, Hr⟩, ⟨%Q, Hq⟩, ⟨%s, %hs, Ho⟩, Hut, Hit, Hs7, Hs8, #Hmw, ⟨%W', %hW', HO⟩⟩
  sl_for (inv2 d L (256 * t1.val) fu fi) $$ [Hu Hi Hbu Hbi]
  case region => intro k acc2; exact trip2 d L t1 fu fi k acc2
  · unfold inv2
    isplitl [Hu]; · iexact Hu
    isplitl [Hi]; · iexact Hi
    isplitl [Hbu]
    · iexists bu; isplitr
      swap; · iexact Hbu
      ipureintro; intro y hy; omega
    · iexists bi; isplitr
      swap; · iexact Hbi
      ipureintro; intro y hy; omega
  iintro %_ HI
  unfold inv2
  icases HI with ⟨Hu, Hi, ⟨%cu, %hcu, Hbu⟩, ⟨%ci, %hci, Hbi⟩⟩
  have hcu : Blocks (256 * t1.val) 16 fu cu := trips2 ▸ hcu
  have hci : Blocks (256 * t1.val) 16 fi ci := trips2 ▸ hci
  have hinu : ∀ x, ((ubS).view.read (Elt F) cu x).toNat < S125000x128.size gathers_S125000x128_S256x128.axis := blocks_lt hu hcu
  have hini : ∀ x, ((ibS).view.read (Elt F) ci x).toNat < S125000x128.size gathers_S125000x128_S256x128.axis := blocks_lt hi hci
  have hrs : (urS).view.set = Finset.univ := View.set_whole _
  have hqs : (irS).view.set = Finset.univ := View.set_whole _
  have hbs : (ubS).view.set = Finset.univ := View.set_whole _
  have hcs : (ibS).view.set = Finset.univ := View.set_whole _
  ihave Hut := (pointsTo_split_subset (ℓ := (utA).view.loc (thr d L)) (q := q) (f := ut) (S := Finset.univ) (Finset.subset_univ (utK).view.set)).1 $$ Hut
  icases Hut with ⟨Hut, Hutr⟩
  ihave Hit := (pointsTo_split_subset (ℓ := (itA).view.loc (thr d L)) (q := q) (f := it) (S := Finset.univ) (Finset.subset_univ (itK).view.set)).1 $$ Hit
  icases Hit with ⟨Hit, Hitr⟩
  ihave Hr := (Entails.of_eq (show ((urS).view.loc (thr d L) ↦{fullShare} R : sProp 𝕄) = (urS).view.loc (thr d L) ↦[(urS).view.set]{fullShare} R by rw [hrs])) $$ Hr
  ihave Hq := (Entails.of_eq (show ((irS).view.loc (thr d L) ↦{fullShare} Q : sProp 𝕄) = (irS).view.loc (thr d L) ↦[(irS).view.set]{fullShare} Q by rw [hqs])) $$ Hq
  ihave Hbu := (Entails.of_eq (show ((ubS).view.loc (thr d L) ↦{fullShare} cu : sProp 𝕄) = (ubS).view.loc (thr d L) ↦[(ubS).view.set]{fullShare} cu by rw [hbs])) $$ Hbu
  ihave Hbi := (Entails.of_eq (show ((ibS).view.loc (thr d L) ↦{fullShare} ci : sProp 𝕄) = (ibS).view.loc (thr d L) ↦[(ibS).view.set]{fullShare} ci by rw [hcs])) $$ Hbi
  iapply (SparseCore.wp_indirectGatherLocal countersEmb 𝒱₀ (thr d L) none (hg := gathers_S125000x128_S256x128) (default : HIx 1)
      (urS).view.dmaCredit (credit_ur _) (by decide) hinu) $$ [Hut Hr Hbu Hs7]
  · isplitl [Hut]; · iexact Hut
    isplitl [Hr]; · iexact Hr
    isplitl [Hbu]; · iexact Hbu
    iexact Hs7
  iintro Hfu
  iapply (SparseCore.wp_indirectGatherLocal countersEmb 𝒱₀ (thr d L) none (hg := gathers_S125000x128_S256x128) (default : HIx 1)
      (irS).view.dmaCredit (credit_ir _) (by decide) hini) $$ [Hit Hq Hbi Hs8]
  · isplitl [Hit]; · iexact Hit
    isplitl [Hq]; · iexact Hq
    isplitl [Hbi]; · iexact Hbi
    iexact Hs8
  iintro Hfi
  simp only [SparseCore.waitIndirectGather, Prog.lift, Prog.bind_op, Prog.bind_ret]
  iapply (Transfers.wp_waitLocalO countersEmb 𝒱₀ (thr d L) none (default : HIx 1) (rfl : (urS).view.dmaCredit = _)) $$ [Hfu HO]
  · isplitl [Hfu]; · iexact Hfu
    isplitl [HO]; · iexact HO
    iapply (Transfers.MayWaits.elim (SemLoc.dma cc0_scratch7.sem)) $$ Hmw
  iintro ⟨⟨Hr, Hut, Hbu⟩, Hs7, HO⟩
  iapply (Transfers.wp_waitLocalO countersEmb 𝒱₀ (thr d L) none (default : HIx 1) (rfl : (irS).view.dmaCredit = _)) $$ [Hfi HO]
  · isplitl [Hfi]; · iexact Hfi
    isplitl [HO]; · iexact HO
    iapply (Transfers.MayWaits.elim (SemLoc.dma cc0_scratch8.sem)) $$ Hmw
  iintro ⟨⟨Hq, Hit, Hbi⟩, Hs8, HO⟩
  ihave Hut := (pointsTo_split_subset (ℓ := (utA).view.loc (thr d L)) (q := q) (f := ut) (S := Finset.univ) (Finset.subset_univ (utK).view.set)).2 $$ [Hut Hutr]
  · isplitl [Hut] <;> iassumption
  ihave Hit := (pointsTo_split_subset (ℓ := (itA).view.loc (thr d L)) (q := q) (f := it) (S := Finset.univ) (Finset.subset_univ (itK).view.set)).2 $$ [Hit Hitr]
  · isplitl [Hit] <;> iassumption
  ihave Hr := (Entails.of_eq (show ((urS).view.loc (thr d L) ↦[(urS).view.set]{fullShare} _ : sProp 𝕄) = (urS).view.loc (thr d L) ↦{fullShare} _ by rw [hrs])) $$ Hr
  ihave Hq := (Entails.of_eq (show ((irS).view.loc (thr d L) ↦[(irS).view.set]{fullShare} _ : sProp 𝕄) = (irS).view.loc (thr d L) ↦{fullShare} _ by rw [hqs])) $$ Hq
  ihave Hbu := (Entails.of_eq (show ((ubS).view.loc (thr d L) ↦[(ubS).view.set]{fullShare} _ : sProp 𝕄) = (ubS).view.loc (thr d L) ↦{fullShare} _ by rw [hbs])) $$ Hbu
  ihave Hbi := (Entails.of_eq (show ((ibS).view.loc (thr d L) ↦[(ibS).view.set]{fullShare} _ : sProp 𝕄) = (ibS).view.loc (thr d L) ↦{fullShare} _ by rw [hcs])) $$ Hbi
  rw [View.write_whole_univ, View.write_whole_univ]
  have hR := fetched_gather (F := F) ut (read_utK ut) hu hcu rfl hinu
  have hQ := fetched_gather (F := F) it (read_itK it) hi hci rfl hini
  sl_for (inv3 d L ut it (256 * t1.val) fu fi _ _) $$ [Hu Hi Hr Hq Ho]
  case region => intro k acc3; exact trip3 d L ut it t1 _ fu fi _ _ hR hQ k acc3
  · unfold inv3 RowBufs
    isplitl [Hu]; · iexact Hu
    isplitl [Hi]; · iexact Hi
    isplitl [Hr Hq]
    · isplitl [Hr]; · iexact Hr
      iexact Hq
    iexists s; isplitr
    swap; · iexact Ho
    ipureintro; exact hs
  iintro %_ HI
  unfold inv3 RowBufs
  icases HI with ⟨Hu, Hi, ⟨Hr, Hq⟩, ⟨%s', %hs', Ho⟩⟩
  sl_step
  have hs' : Done ut it fu fi (256 * (t1.val + 1)) s' := by
    have e : 256 * t1.val + 16 * Scf.trips k0_t3_loop.lb k0_t3_loop.ub k0_t3_loop.st = 256 * (t1.val + 1) := by
      rw [show Scf.trips k0_t3_loop.lb k0_t3_loop.ub k0_t3_loop.st = 16 from trips3]; omega
    exact e ▸ hs'
  isplitl [Hu]; · iexact Hu
  isplitl [Hi]; · iexact Hi
  isplitl [Hbu]; · iexists _; iexact Hbu
  isplitl [Hbi]; · iexists _; iexact Hbi
  isplitl [Hr]; · iexists _; iexact Hr
  isplitl [Hq]; · iexists _; iexact Hq
  isplitl [Ho]
  · iexists s'; isplitr
    swap; · iexact Ho
    ipureintro; exact hs'
  isplitl [Hut]; · iexact Hut
  isplitl [Hit]; · iexact Hit
  isplitl [Hs7]; · iexact Hs7
  isplitl [Hs8]; · iexact Hs8
  isplitr; · iexact Hmw
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## A subcore's own semaphores and buffers -/

theorem ownSems0_V :
    (ownSems0 (thr d L) : sProp 𝕄)
      = iprop(semVal (cell d L cc0_scratch7.sem) 0 ∗ semVal (cell d L cc0_scratch8.sem) 0 ∗ semVal (cell d L cc0_scoped0.sem) 0
          ∗ semVal (cell d L cc0_scoped1.sem) 0 ∗ semVal (cell d L cc0_scoped2.sem) 0
          ∗ bigSep ((((((ownCells (thr d L)).erase (cell d L cc0_scratch7.sem)).erase (cell d L cc0_scratch8.sem)).erase (cell d L cc0_scoped0.sem)).erase
              (cell d L cc0_scoped1.sem)).erase (cell d L cc0_scoped2.sem)) fun g => semVal g 0) := by
  have hm : ∀ s : DmaSem sig, (SemLoc.dma s : SemLoc sig).isScoped .scVector = true → cell d L s ∈ ownCells (thr d L) :=
    fun s h => (mem_ownCells (g := cell d L s)).mpr ⟨rfl, h⟩
  have hne : ∀ s s' : DmaSem sig, s ≠ s' → cell d L s ≠ cell d L s' := fun s s' h e => h (by
    have := congrArg Prod.snd e
    exact SemLoc.dma.inj this)
  unfold SparseCore.Cfg.ownSems0
  rw [SparseCore.bigSep_erase' (hm cc0_scratch7.sem (by decide)),
    SparseCore.bigSep_erase' (Finset.mem_erase.mpr ⟨hne cc0_scratch8.sem _ (by decide), hm cc0_scratch8.sem (by decide)⟩),
    SparseCore.bigSep_erase' (Finset.mem_erase.mpr ⟨hne cc0_scoped0.sem _ (by decide), Finset.mem_erase.mpr ⟨hne cc0_scoped0.sem _ (by decide), hm cc0_scoped0.sem (by decide)⟩⟩),
    SparseCore.bigSep_erase' (Finset.mem_erase.mpr ⟨hne cc0_scoped1.sem _ (by decide), Finset.mem_erase.mpr ⟨hne cc0_scoped1.sem _ (by decide),
      Finset.mem_erase.mpr ⟨hne cc0_scoped1.sem _ (by decide), hm cc0_scoped1.sem (by decide)⟩⟩⟩),
    SparseCore.bigSep_erase' (Finset.mem_erase.mpr ⟨hne cc0_scoped2.sem _ (by decide), Finset.mem_erase.mpr ⟨hne cc0_scoped2.sem _ (by decide),
      Finset.mem_erase.mpr ⟨hne cc0_scoped2.sem _ (by decide), Finset.mem_erase.mpr ⟨hne cc0_scoped2.sem _ (by decide), hm cc0_scoped2.sem (by decide)⟩⟩⟩⟩)]

/-- A subcore's buffer, as the device names it. -/
abbrev bref (r : Ref sig .scVector) : DevRef τ sig := (Proc.scVector (cV L) (jV L)).devRef r

/-- A subcore's own buffers are its seven scratch buffers, each at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ (∃ f, (thr d L).loc cc0_scratch6 ↦{fullShare} f)
          ∗ bigSep ((((((((ownRefs (τ := τ) (.scVector (cV L) (jV L))).erase (bref L cc0_scratch0)).erase (bref L cc0_scratch1)).erase (bref L cc0_scratch2)).erase (bref L cc0_scratch3)).erase (bref L cc0_scratch4)).erase (bref L cc0_scratch5)).erase (bref L cc0_scratch6))
              fun b => iprop(∃ f, ((d, b) : Loc nD τ sig) ↦{fullShare} f)) := by
  have hm : ∀ r : Ref sig .scVector, (bref L r).owner = .proc (.scVector (cV L) (jV L)) → bref L r ∈ ownRefs (τ := τ) (.scVector (cV L) (jV L)) :=
    fun r h => SparseCore.Cfg.mem_ownRefs_of_owner h
  have hne : ∀ r r' : Ref sig .scVector, r ≠ r' → bref L r ≠ bref L r' := fun r r' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), (hm cc0_scratch1 rfl)⟩),
    SparseCore.bigSep_erase' (Finset.mem_erase.mpr ⟨hne cc0_scratch2 cc0_scratch1 (by decide), (Finset.mem_erase.mpr ⟨hne cc0_scratch2 cc0_scratch0 (by decide), (hm cc0_scratch2 rfl)⟩)⟩),
    SparseCore.bigSep_erase' (Finset.mem_erase.mpr ⟨hne cc0_scratch3 cc0_scratch2 (by decide), (Finset.mem_erase.mpr ⟨hne cc0_scratch3 cc0_scratch1 (by decide), (Finset.mem_erase.mpr ⟨hne cc0_scratch3 cc0_scratch0 (by decide), (hm cc0_scratch3 rfl)⟩)⟩)⟩),
    SparseCore.bigSep_erase' (Finset.mem_erase.mpr ⟨hne cc0_scratch4 cc0_scratch3 (by decide), (Finset.mem_erase.mpr ⟨hne cc0_scratch4 cc0_scratch2 (by decide), (Finset.mem_erase.mpr ⟨hne cc0_scratch4 cc0_scratch1 (by decide), (Finset.mem_erase.mpr ⟨hne cc0_scratch4 cc0_scratch0 (by decide), (hm cc0_scratch4 rfl)⟩)⟩)⟩)⟩),
    SparseCore.bigSep_erase' (Finset.mem_erase.mpr ⟨hne cc0_scratch5 cc0_scratch4 (by decide), (Finset.mem_erase.mpr ⟨hne cc0_scratch5 cc0_scratch3 (by decide), (Finset.mem_erase.mpr ⟨hne cc0_scratch5 cc0_scratch2 (by decide), (Finset.mem_erase.mpr ⟨hne cc0_scratch5 cc0_scratch1 (by decide), (Finset.mem_erase.mpr ⟨hne cc0_scratch5 cc0_scratch0 (by decide), (hm cc0_scratch5 rfl)⟩)⟩)⟩)⟩)⟩),
    SparseCore.bigSep_erase' (Finset.mem_erase.mpr ⟨hne cc0_scratch6 cc0_scratch5 (by decide), (Finset.mem_erase.mpr ⟨hne cc0_scratch6 cc0_scratch4 (by decide), (Finset.mem_erase.mpr ⟨hne cc0_scratch6 cc0_scratch3 (by decide), (Finset.mem_erase.mpr ⟨hne cc0_scratch6 cc0_scratch2 (by decide), (Finset.mem_erase.mpr ⟨hne cc0_scratch6 cc0_scratch1 (by decide), (Finset.mem_erase.mpr ⟨hne cc0_scratch6 cc0_scratch0 (by decide), (hm cc0_scratch6 rfl)⟩)⟩)⟩)⟩)⟩)⟩)]

/-! ## What a subcore is handed, and what it hands back -/

/-- Subcore `w`'s read share of a table. -/
abbrev tabq (w : Fin 32) : PosShare TreeShare := ShareLeaves.leaf 5 fullShare w

/-- Subcore `w`'s words of the id arrays and of the result, and its shares of the tables. -/
def Piece (u i : S16384.Idx → Elt F .i32) (ut it : S125000x128.Idx → Elt F .f32) (o : S16384.Idx → Elt F .f32) (w : Fin 32) : sProp 𝕄 :=
  iprop((a0Loc d ↦[partSet w]{fullShare} u) ∗ (a1Loc d ↦[partSet w]{fullShare} i) ∗ (utLoc d ↦{tabq w} ut) ∗ (itLoc d ↦{tabq w} it)
    ∗ (oLoc d ↦[partSet w]{fullShare} o))

theorem pts_uK (f : Buf (Elt F) (a0Loc d)) :
    ((uK L).view.loc (thr d L) ↦[(uK L).view.set]{fullShare} f : sProp 𝕄) = a0Loc d ↦[partSet (widL L)]{fullShare} f := by rw [set_uK]
theorem pts_iK (f : Buf (Elt F) (a1Loc d)) :
    ((iK L).view.loc (thr d L) ↦[(iK L).view.set]{fullShare} f : sProp 𝕄) = a1Loc d ↦[partSet (widL L)]{fullShare} f := by rw [set_iK]
theorem pts_oK (f : Buf (Elt F) (oLoc d)) :
    ((oK L).view.loc (thr d L) ↦[(oK L).view.set]{fullShare} f : sProp 𝕄) = oLoc d ↦[partSet (widL L)]{fullShare} f := by rw [set_oK]

/-- The result part written with all 512 scores of the fetched ids is the part of the scores. -/
theorem written (u i : S16384.Idx → Elt F .i32) (ut it : S125000x128.Idx → Elt F .f32) (o : S16384.Idx → Elt F .f32) (s : S512.Idx → Elt F .f32)
    (hs : Done ut it ((uK L).view.read (Elt F) u) ((iK L).view.read (Elt F) i) 512 s) :
    ∀ x ∈ (oK L).view.set, (oK L).view.writes (Elt F) o [⟨Rect.whole S512, s⟩] x = Scores u i ut it x := by
  intro x hx
  obtain ⟨y, -, rfl⟩ := Finset.mem_map.mp hx
  have he : (oK L).view.emb y = ((oK L).view.slice (Rect.whole S512)).emb y := by
    show (oK L).view.emb y = (oK L).view.emb ((Rect.whole S512).emb y)
    congr 1
    funext a
    refine Fin.ext ?_
    show _ = 0 + 1 * (y a).val
    omega
  have hw : ((oK L).view.slice (Rect.whole S512)).write (Elt F) o s Finset.univ ((oK L).view.emb y) = s y := by
    rw [he, View.write_emb_of_mem _ _ (Finset.mem_univ y)]
    exact cast_eq _ _
  refine hw.trans ?_
  rw [hs y (y 0).isLt, View.read_apply, View.read_apply]
  rfl

set_option maxHeartbeats 4000000 in
/-- A subcore's task: from its words of the ids and its shares of the tables, the scores of its ids in its words of the result. -/
theorem tile_body (hF : (K (F := F)).Facts) (u i : S16384.Idx → Elt F .i32) (ut it : S125000x128.Idx → Elt F .f32) (o : S16384.Idx → Elt F .f32)
    (hu : ∀ x, (u x : BitVec 32).toNat < 1000000) (hi : ∀ x, (i x : BitVec 32).toNat < 1000000)
    (O : CellTallies nD τ sig (HIx 1)) (W : Waits sig (HIx 1)) (hO : ∀ g, O g none = 0) :
    iprop(levAts (K (F := F)).L (K (F := F)).lev ∗ emp ∗ Piece d u i ut it o (widL L)
        ∗ scopedBufs (thr d L) ∗ scopedSems0 (thr d L) ∗ owes (thr d L) O W)
      ⊢ wp frame (wpE (defs₀ (F := F)) 𝒱₀ (thr d L) none) Set.univ
          (cc0_mf_kernel L uA (Memref.isWhole_whole _) iA (Memref.isWhole_whole _) utA (Memref.isWhole_whole _) itA (Memref.isWhole_whole _) oA (Memref.isWhole_whole _)
            uS (Memref.isWhole_whole _) iS (Memref.isWhole_whole _) ubS (Memref.isWhole_whole _) ibS (Memref.isWhole_whole _) urS (Memref.isWhole_whole _)
            irS (Memref.isWhole_whole _) oS (Memref.isWhole_whole _) cc0_scratch7 cc0_scratch8 cc0_scoped0 cc0_scoped1 cc0_scoped2)
          fun _ => iprop(Piece d u i ut it (Scores u i ut it) (widL L)
            ∗ scopedBufs (thr d L) ∗ scopedSems0 (thr d L)
            ∗ ∃ W', ⌜∀ p ∈ W', p ∈ W ∨ p.2 = none⌝ ∗ owes (thr d L) O W') := by
  simp only [cc0_mf_kernel_eq_skeleton]; unfold cc0_mf_kernel_skel
  rw [(K (F := F)).scopedBufs_V hF d (cV L) (jV L), SparseCore.Cfg.scopedSems0_V (Val := Elt F) d (cV L) (jV L), ownSems0_V, ownBufs_V]
  unfold Piece
  dsimp only
  iintro ⟨#Hlv, -, ⟨Hua, Hia, Hut, Hit, Hoa⟩, ⟨⟨%f0, Hu⟩, ⟨%f1, Hi⟩, Hbu, Hbi, Hr, Hq, ⟨%f6, Ho⟩, Hbufs⟩, ⟨Hs7, Hs8, HsA, HsB, HsC, Hsems⟩, HO⟩
  ihave #Hmw := (show levAts (K (F := F)).L (K (F := F)).lev ⊢ Transfers.MayWaits (thr d L) (default : HIx 1) O from
    (K (F := F)).mayWaits_none (thr := thr d L) hO) $$ Hlv
  ihave Hua := (Entails.of_eq (pts_uK (F := F) d L _).symm) $$ Hua
  ihave Hia := (Entails.of_eq (pts_iK (F := F) d L _).symm) $$ Hia
  ihave Hoa := (Entails.of_eq (pts_oK (F := F) d L _).symm) $$ Hoa
  ihave Hu := (Entails.of_eq (show ((thr d L).loc cc0_scratch0 ↦{fullShare} f0 : sProp 𝕄) = (uS).view.loc (thr d L) ↦{fullShare} f0 from rfl)) $$ Hu
  ihave Hi := (Entails.of_eq (show ((thr d L).loc cc0_scratch1 ↦{fullShare} f1 : sProp 𝕄) = (iS).view.loc (thr d L) ↦{fullShare} f1 from rfl)) $$ Hi
  ihave Ho := (Entails.of_eq (show ((thr d L).loc cc0_scratch6 ↦{fullShare} f6 : sProp 𝕄) = (oS).view.loc (thr d L) ↦{fullShare} f6 from rfl)) $$ Ho
  sl_exec
  have hfu : ∀ x, ((uK L).view.read (Elt F) u x : BitVec 32).toNat < 1000000 := fun x => by rw [View.read_apply]; exact hu _
  have hfi : ∀ x, ((iK L).view.read (Elt F) i x : BitVec 32).toNat < 1000000 := fun x => by rw [View.read_apply]; exact hi _
  ihave Hu := (Entails.of_eq (show ((uS).view.loc (thr d L) ↦{fullShare} View.write (Elt F) (uS).view f0 (tile_body.sl.dma0 L u) Finset.univ : sProp 𝕄)
    = (uS).view.loc (thr d L) ↦{fullShare} ((uK L).view.read (Elt F) u) by rw [View.write_whole_univ]; rfl)) $$ Hu
  ihave Hi := (Entails.of_eq (show ((iS).view.loc (thr d L) ↦{fullShare} View.write (Elt F) (iS).view f1 (tile_body.sl.dma0_1 L i) Finset.univ : sProp 𝕄)
    = (iS).view.loc (thr d L) ↦{fullShare} ((iK L).view.read (Elt F) i) by rw [View.write_whole_univ]; rfl)) $$ Hi
  sl_for (inv1 d L (tabq (widL L)) O W ut it ((uK L).view.read (Elt F) u) ((iK L).view.read (Elt F) i)) $$ [Hu Hi Hbu Hbi Hr Hq Ho Hut Hit Hs7 Hs8 HO]
  case region => intro k acc; exact trip1 d L (tabq (widL L)) O W ut it _ _ hfu hfi k acc
  · unfold inv1
    isplitl [Hu]; · iexact Hu
    isplitl [Hi]; · iexact Hi
    isplitl [Hbu]; · iexact Hbu
    isplitl [Hbi]; · iexact Hbi
    isplitl [Hr]; · iexact Hr
    isplitl [Hq]; · iexact Hq
    isplitl [Ho]
    · iexists f6; isplitr
      swap; · iexact Ho
      ipureintro; intro y hy; omega
    isplitl [Hut]; · iexact Hut
    isplitl [Hit]; · iexact Hit
    isplitl [Hs7]; · iexact Hs7
    isplitl [Hs8]; · iexact Hs8
    isplitr; · iexact Hmw
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HI
  unfold inv1
  icases HI with ⟨Hu, Hi, Hbu, Hbi, Hr, Hq, ⟨%s, %hs, Ho⟩, Hut, Hit, Hs7, Hs8, -, ⟨%W', %hW', HO⟩⟩
  have hs : Done ut it ((uK L).view.read (Elt F) u) ((iK L).view.read (Elt F) i) 512 s := by
    have e : 256 * Scf.trips k0_t1_loop.lb k0_t1_loop.ub k0_t1_loop.st = 512 := by
      rw [show Scf.trips k0_t1_loop.lb k0_t1_loop.ub k0_t1_loop.st = 2 from trips1]
    exact e ▸ hs
  sl_exec
  sl_step
  ihave Hoa := (Entails.of_eq (pointsTo_congr (q := fullShare) (ℓ := (oK L).view.loc (thr d L)) (written L u i ut it o (tile_body.sl.dma0_2 s) hs))) $$ Hoa
  isplitl [Hua Hia Hut Hit Hoa]
  · isplitl [Hua]; · iapply (Entails.of_eq (pts_uK (F := F) d L _)); iexact Hua
    isplitl [Hia]; · iapply (Entails.of_eq (pts_iK (F := F) d L _)); iexact Hia
    isplitl [Hut]; · iexact Hut
    isplitl [Hit]; · iexact Hit
    iapply (Entails.of_eq (pts_oK (F := F) d L _)); iexact Hoa
  isplitl [Hu Hi Hbu Hbi Hr Hq Ho Hbufs]
  · isplitl [Hu]; · iexists _; iexact Hu
    isplitl [Hi]; · iexists _; iexact Hi
    isplitl [Hbu]; · iexact Hbu
    isplitl [Hbi]; · iexact Hbi
    isplitl [Hr]; · iexact Hr
    isplitl [Hq]; · iexact Hq
    isplitl [Ho]; · iexists _; iexact Ho
    iexact Hbufs
  isplitl [Hs7 Hs8 HsA HsB HsC Hsems]
  · isplitl [Hs7]; · iexact Hs7
    isplitl [Hs8]; · iexact Hs8
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  exact hW' p hp

end Cert.Proof.Mf
end
-- ==== Proof.Launch.lean ====
/-
  The whole program: the two tables reshaped, the thirty-two subcores' tasks, and the run with the scores as its result.
-/
module

public import proofs.«01_k».proof.Proof.Tile

@[expose] public section

noncomputable section

namespace Cert.Proof.Mf

open Cert.KernelIdeal Cert.KernelIdeal.Gen

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-- A table as 125000 rows of 128. -/
def tab (f : S1000000x16.Idx → Elt F .f32) : S125000x128.Idx → Elt F .f32 := shapeCast S125000x128 f shapeCasts_S1000000x16_S125000x128

/-- The launch contents of the ids, the reshaped tables, and the scores they have. -/
abbrev u0 (d : Dev nD) : S16384.Idx → Elt F .i32 := m (a0Loc d)
abbrev i0 (d : Dev nD) : S16384.Idx → Elt F .i32 := m (a1Loc d)
abbrev ut0 (d : Dev nD) : S125000x128.Idx → Elt F .f32 := tab (m (a2Loc d))
abbrev it0 (d : Dev nD) : S125000x128.Idx → Elt F .f32 := tab (m (a3Loc d))
abbrev res (d : Dev nD) : S16384.Idx → Elt F .f32 := Scores (u0 m d) (i0 m d) (ut0 m d) (it0 m d)

/-- What the proof asks of the launch memory: every id is below 1000000. -/
def InRange : Prop := ∀ (d : Dev nD) (x : S16384.Idx), (u0 m d x : BitVec 32).toNat < 1000000 ∧ (i0 m d x : BitVec 32).toNat < 1000000

/-! ## What the handshakes carry -/

/-- Subcore `w`'s piece before its task and after. -/
abbrev before (d : Dev nD) (w : Fin 32) : sProp 𝕄 := Piece d (u0 m d) (i0 m d) (ut0 m d) (it0 m d) (m (oLoc d)) w
abbrev after (d : Dev nD) (w : Fin 32) : sProp 𝕄 := Piece d (u0 m d) (i0 m d) (ut0 m d) (it0 m d) (res m d) w

instance piece_storable (d : Dev nD) (u i : S16384.Idx → Elt F .i32) (ut it : S125000x128.Idx → Elt F .f32) (o : S16384.Idx → Elt F .f32) (w : Fin 32) :
    BI.Storable (upEmb : UEmb _ 𝕄) (Piece d u i ut it o w) := by
  unfold Piece; infer_instance

abbrev number (c : Fin ((K (F := F)).nCore 0)) (s : Fin ((K (F := F)).nSub 0)) : Fin 32 := wid (Fin.cast nCore_zero c) (Fin.cast nSub_zero s)

/-- The one call takes every subcore's piece and hands it back with the scores in it. -/
def P : (K (F := F)).Pay (nD := nD) (Val := Elt F) (Name := ℕ) (U := UU) where
  st := fun q d c => match q with | 0 => bigSep Finset.univ fun s : Fin ((K (F := F)).nSub 0) => before m d (number c s)
  dn := fun q d c => match q with | 0 => bigSep Finset.univ fun s : Fin ((K (F := F)).nSub 0) => after m d (number c s)
  go := fun q d c s => match q with | 0 => before m d (number c s)
  td := fun q d c s => match q with | 0 => after m d (number c s)
  x := fun _ _ => iprop(emp)

instance P_storable : (P (F := F) m).IsStorable where
  st q d c := match q with
    | 0 => (inferInstance : BI.Storable (upEmb : UEmb _ 𝕄) (bigSep Finset.univ fun s : Fin ((K (F := F)).nSub 0) => before m d (number c s)))
  dn q d c := match q with
    | 0 => (inferInstance : BI.Storable (upEmb : UEmb _ 𝕄) (bigSep Finset.univ fun s : Fin ((K (F := F)).nSub 0) => after m d (number c s)))
  go q d c s := match q with | 0 => (inferInstance : BI.Storable (upEmb : UEmb _ 𝕄) (before m d (number c s)))
  td q d c s := match q with | 0 => (inferInstance : BI.Storable (upEmb : UEmb _ 𝕄) (after m d (number c s)))

/-! ## The task obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_mf_kernel (coordsV c s)
          uA (Memref.isWhole_whole _) iA (Memref.isWhole_whole _) utA (Memref.isWhole_whole _) itA (Memref.isWhole_whole _) oA (Memref.isWhole_whole _)
          uS (Memref.isWhole_whole _) iS (Memref.isWhole_whole _) ubS (Memref.isWhole_whole _) ibS (Memref.isWhole_whole _) urS (Memref.isWhole_whole _)
          irS (Memref.isWhole_whole _) oS (Memref.isWhole_whole _) cc0_scratch7 cc0_scratch8 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore of the call meets the call's contract. -/
theorem tileObl (hF : (K (F := F)).Facts) (hin : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (u0 m d) (i0 m d) (ut0 m d) (it0 m d) (m (oLoc d)) (fun x => (hin d x).1) (fun x => (hin d x).2)
    O W hO).trans (wp_mono frame _ _ fun _ => obl_post)

theorem vecSplit : (K (F := F)).VecSplit' (P m) 0 := by
  intro d c
  show (bigSep Finset.univ fun s : Fin ((K (F := F)).nSub 0) => before m d (number c s)) ⊢ |={Set.univ}=> iprop(
      (bigSep Finset.univ fun s : Fin ((K (F := F)).nSub 0) => before m d (number c s))
      ∗ ((bigSep Finset.univ fun s : Fin ((K (F := F)).nSub 0) => after m d (number c s))
          -∗ (bigSep Finset.univ fun s : Fin ((K (F := F)).nSub 0) => after m d (number c s))))
  iintro H; imodintro
  isplitl [H]; · iexact H
  iintro H; iexact H

/-! ## The arrays split among the thirty-two subcores -/

theorem parts_disjoint : ∀ v ∈ (Finset.univ : Finset (Fin 32)), ∀ w ∈ (Finset.univ : Finset (Fin 32)), v ≠ w → Disjoint (partSet v) (partSet w) :=
  fun _ _ _ _ h => Rect.part_disjoint pdiv h
theorem parts_cover : (Finset.univ : Finset (Fin 32)).biUnion partSet = Finset.univ := Rect.biUnion_part pdiv

/-- An array whole is the thirty-two parts of it. -/
theorem pts_parts {ℓ : Loc nD τ sig} (I : Fin 32 → Finset (Idx ℓ)) (hd : ∀ v ∈ (Finset.univ : Finset (Fin 32)), ∀ w ∈ (Finset.univ : Finset (Fin 32)), v ≠ w → Disjoint (I v) (I w))
    (hc : (Finset.univ : Finset (Fin 32)).biUnion I = Finset.univ) (f : Buf (Elt F) ℓ) :
    (ℓ ↦{fullShare} f : sProp 𝕄) = bigSep Finset.univ fun w : Fin 32 => ℓ ↦[I w]{fullShare} f := by
  rw [← pointsTo_biUnion Finset.univ (ℓ := ℓ) I hd, hc]

/-- A table whole is the thirty-two subcores' shares of it. -/
theorem pts_leaves {ℓ : Loc nD τ sig} (f : Buf (Elt F) ℓ) : (ℓ ↦{fullShare} f : sProp 𝕄) = bigSep Finset.univ fun w : Fin 32 => ℓ ↦{tabq w} f :=
  ShareLeaves.pointsTo_leaves Finset.univ f 5 fullShare

/-- The arrays whole are the thirty-two subcores' pieces. -/
theorem pieces (d : Dev nD) (u i : S16384.Idx → Elt F .i32) (ut it : S125000x128.Idx → Elt F .f32) (o : S16384.Idx → Elt F .f32) :
    (iprop((a0Loc d ↦{fullShare} u) ∗ (a1Loc d ↦{fullShare} i) ∗ (utLoc d ↦{fullShare} ut) ∗ (itLoc d ↦{fullShare} it) ∗ (oLoc d ↦{fullShare} o)) : sProp 𝕄)
      = bigSep Finset.univ fun w : Fin 32 => Piece d u i ut it o w := by
  unfold Piece
  rw [bigSep_sep', bigSep_sep', bigSep_sep', bigSep_sep', ← pts_parts (ℓ := a0Loc d) partSet parts_disjoint parts_cover,
    ← pts_parts (ℓ := a1Loc d) partSet parts_disjoint parts_cover, ← pts_parts (ℓ := oLoc d) partSet parts_disjoint parts_cover]
  rw [← pts_leaves (ℓ := utLoc d), ← pts_leaves (ℓ := itLoc d)]

/-- Core and subcore numbers together number the thirty-two subcores. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    unfold wid
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val
    omega

theorem pieces_cores (Φ : Fin 32 → sProp 𝕄) :
    (bigSep Finset.univ fun c : Fin ((K (F := F)).nCore 0) => bigSep Finset.univ fun s : Fin ((K (F := F)).nSub 0) => Φ (number c s)) = bigSep Finset.univ Φ := by
  rw [bigSep_univ_equiv widEquiv Φ, bigSep_univ_prod]
  rfl

theorem st0_eq (d : Dev nD) : (bigSep Finset.univ fun c : Fin ((K (F := F)).nCore 0) => (P m).st 0 d c)
    = iprop((a0Loc d ↦{fullShare} u0 m d) ∗ (a1Loc d ↦{fullShare} i0 m d) ∗ (utLoc d ↦{fullShare} ut0 m d) ∗ (itLoc d ↦{fullShare} it0 m d) ∗ (oLoc d ↦{fullShare} m (oLoc d))) := by
  rw [pieces]; exact pieces_cores (F := F) (before m d)
theorem dn0_eq (d : Dev nD) : (bigSep Finset.univ fun c : Fin ((K (F := F)).nCore 0) => (P m).dn 0 d c)
    = iprop((a0Loc d ↦{fullShare} u0 m d) ∗ (a1Loc d ↦{fullShare} i0 m d) ∗ (utLoc d ↦{fullShare} ut0 m d) ∗ (itLoc d ↦{fullShare} it0 m d) ∗ (oLoc d ↦{fullShare} res m d)) := by
  rw [pieces]; exact pieces_cores (F := F) (after m d)

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

abbrev r0 : DevRef τ sig := Proc.devRef .tc (main_arg0 : Ref sig .tc)
abbrev r1 : DevRef τ sig := Proc.devRef .tc (main_arg1 : Ref sig .tc)
abbrev r2 : DevRef τ sig := Proc.devRef .tc (main_arg2 : Ref sig .tc)
abbrev r3 : DevRef τ sig := Proc.devRef .tc (main_arg3 : Ref sig .tc)
abbrev rut : DevRef τ sig := Proc.devRef .tc (main_v0 : Ref sig .tc)
abbrev rit : DevRef τ sig := Proc.devRef .tc (main_v1 : Ref sig .tc)
abbrev ro : DevRef τ sig := Proc.devRef .tc (main_v2 : Ref sig .tc)
abbrev opU : HloOp τ sig (Elt F) := StableHlo.reshape main_arg2 main_v0 (rfl : (.f32 : EltTy) = .f32) shapeCasts_S1000000x16_S125000x128
abbrev opI : HloOp τ sig (Elt F) := StableHlo.reshape main_arg3 main_v1 (rfl : (.f32 : EltTy) = .f32) shapeCasts_S1000000x16_S125000x128

/-- The program's arrays. -/
abbrev S7 : Finset (DevRef τ sig) := {r0, r1, r2, r3, rut, rit, ro}

theorem held_S7 (d : Dev nD) (W : Valuation τ sig (Elt F)) :
    (held (T d) S7 W : sProp 𝕄) = iprop((a0Loc d ↦{fullShare} W r0) ∗ (a1Loc d ↦{fullShare} W r1) ∗ (a2Loc d ↦{fullShare} W r2) ∗ (a3Loc d ↦{fullShare} W r3)
      ∗ (utLoc d ↦{fullShare} W rut) ∗ (itLoc d ↦{fullShare} W rit) ∗ (oLoc d ↦{fullShare} W ro)) := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The launch valuation, and it after the two reshapes. -/
def V0 (d : Dev nD) : Valuation τ sig (Elt F) := fun b => m (d, b)
abbrev V2 (d : Dev nD) : Valuation τ sig (Elt F) := (opI (F := F)).result ((opU (F := F)).result (V0 m d))

theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

theorem opU_ne (W : Valuation τ sig (Elt F)) {b : DevRef τ sig} (h : b ≠ rut) : (opU (F := F)).result W b = W b :=
  (opU (F := F)).result_of_not_mem W (b := b) (show b ∉ ({rut} : Finset (DevRef τ sig)) by rwa [Finset.mem_singleton])
theorem opI_ne (W : Valuation τ sig (Elt F)) {b : DevRef τ sig} (h : b ≠ rit) : (opI (F := F)).result W b = W b :=
  (opI (F := F)).result_of_not_mem W (b := b) (show b ∉ ({rit} : Finset (DevRef τ sig)) by rwa [Finset.mem_singleton])

theorem held_V2 (d : Dev nD) :
    (held (T d) S7 (V2 m d) : sProp 𝕄) = iprop((a0Loc d ↦{fullShare} u0 m d) ∗ (a1Loc d ↦{fullShare} i0 m d) ∗ (a2Loc d ↦{fullShare} m (a2Loc d)) ∗ (a3Loc d ↦{fullShare} m (a3Loc d))
      ∗ (utLoc d ↦{fullShare} ut0 m d) ∗ (itLoc d ↦{fullShare} it0 m d) ∗ (oLoc d ↦{fullShare} m (oLoc d))) := by
  have e0 : V2 m d r0 = m (a0Loc d) := (opI_ne _ (by decide)).trans (opU_ne _ (by decide))
  have e1 : V2 m d r1 = m (a1Loc d) := (opI_ne _ (by decide)).trans (opU_ne _ (by decide))
  have e2 : V2 m d r2 = m (a2Loc d) := (opI_ne _ (by decide)).trans (opU_ne _ (by decide))
  have e3 : V2 m d r3 = m (a3Loc d) := (opI_ne _ (by decide)).trans (opU_ne _ (by decide))
  have eo : V2 m d ro = m (oLoc d) := (opI_ne _ (by decide)).trans (opU_ne _ (by decide))
  have eu : V2 m d rut = ut0 m d := (opI_ne _ (by decide)).trans (reshape_result main_arg2 main_v0 _ _ _ _ _)
  have ei : V2 m d rit = it0 m d := by
    refine (reshape_result main_arg3 main_v1 _ _ _ _ _).trans ?_
    show (fun i => shapeCast S125000x128 ((opU (F := F)).result (V0 m d) r3) shapeCasts_S1000000x16_S125000x128 i) = _
    rw [opU_ne _ (show r3 ≠ rut by decide)]
    rfl
  rw [held_S7, e0, e1, e2, e3, eo, eu, ei]

theorem hU : (opU (F := F)).bufs ⊆ S7 := show ({r2, rut} : Finset (DevRef τ sig)) ⊆ S7 by decide
theorem hI : (opI (F := F)).bufs ⊆ S7 := show ({r3, rit} : Finset (DevRef τ sig)) ⊆ S7 by decide

/-- What the program leaves: the arguments at their launch contents, the result at the scores. -/
abbrev FIN (d : Dev nD) : sProp 𝕄 :=
  iprop((a0Loc d ↦{fullShare} u0 m d) ∗ (a1Loc d ↦{fullShare} i0 m d) ∗ (a2Loc d ↦{fullShare} m (a2Loc d)) ∗ (a3Loc d ↦{fullShare} m (a3Loc d)) ∗ (oLoc d ↦{fullShare} res m d))

/-- The program on device `d`: the two reshapes, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opU) (S := S7) hU (V := V0 m d)) $$ [Hb Hheld]
  · isplitl [Hb] <;> iassumption
  iintro ⟨Hb, Hheld⟩
  rw [wp_ret]; imodintro
  iapply (wp_hlo_within 𝒱 (SparseCore.T d) none Set.univ (op := opI) (S := S7) hI (V := (opU (F := F)).result (V0 m d))) $$ [Hb Hheld]
  · isplitl [Hb] <;> iassumption
  iintro ⟨Hb, Hheld⟩
  rw [wp_ret]; imodintro
  ihave Hh := (Entails.of_eq (held_V2 m d)) $$ Hheld
  icases Hh with ⟨H0, H1, H2, H3, Hut, Hit, Ho⟩
  iapply ((K (F := F)).wp_run (D (F := F)) 𝒱 (EH := EH) (P := P m) κ d 0) $$ [Hst H0 H1 H2 H3 Hut Hit Ho Hb Hts]
  isplitr; · iexact Hctx
  isplitl [Hst]; · iexact Hst
  isplitl [H0 H1 Hut Hit Ho]
  · rw [st0_eq]
    isplitl [H0]; · iexact H0
    isplitl [H1]; · iexact H1
    isplitl [Hut]; · iexact Hut
    isplitl [Hit]; · iexact Hit
    iexact Ho
  iintro ⟨Hst, Hdn⟩
  ihave Hdn' := (Entails.of_eq (dn0_eq m d)) $$ Hdn
  icases Hdn' with ⟨H0, H1, -, -, Ho⟩
  imodintro
  isplitl [Hst]; · iexact Hst
  isplitr [Hb Hts]
  · isplitl [H0]; · iexact H0
    isplitl [H1]; · iexact H1
    isplitl [H2]; · iexact H2
    isplitl [H3]; · iexact H3
    iexact Ho
  isplitl [Hb] <;> iassumption

/-- The final memory on device `d`. -/
def fq (d : Dev nD) (s' : Phys nD τ sig (Elt F)) : Prop :=
  s'.mem.mem (oLoc d) = res m d ∧ s'.mem.mem (a0Loc d) = m (a0Loc d) ∧ s'.mem.mem (a1Loc d) = m (a1Loc d) ∧ s'.mem.mem (a2Loc d) = m (a2Loc d) ∧ s'.mem.mem (a3Loc d) = m (a3Loc d)

/-- An array held whole is the machine's, and the holding stays. -/
theorem agree (s' : Phys nD τ sig (Elt F)) (ℓ : Loc nD τ sig) (f : Buf (Elt F) ℓ) :
    iprop(SI s' ∗ (ℓ ↦{fullShare} f)) ⊢ (iprop(SI s' ∗ ⌜s'.mem.mem ℓ = f⌝) : sProp 𝕄) := by
  iintro H
  ihave H := (persistent_entails_right (SI_pointsTo_agree (st := s') (ℓ := ℓ) (I := Finset.univ) (q := fullShare) (f := f))) $$ H
  icases H with ⟨%h, HSI, -⟩
  isplitl [HSI]; · iexact HSI
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨H0, H1, H2, H3, Ho⟩, HSI⟩
  ihave H := (agree s' (a0Loc d) (u0 m d)) $$ [HSI H0]; · isplitl [HSI] <;> iassumption
  icases H with ⟨HSI, %h0⟩
  ihave H := (agree s' (a1Loc d) (i0 m d)) $$ [HSI H1]; · isplitl [HSI] <;> iassumption
  icases H with ⟨HSI, %h1⟩
  ihave H := (agree s' (a2Loc d) (m (a2Loc d))) $$ [HSI H2]; · isplitl [HSI] <;> iassumption
  icases H with ⟨HSI, %h2⟩
  ihave H := (agree s' (a3Loc d) (m (a3Loc d))) $$ [HSI H3]; · isplitl [HSI] <;> iassumption
  icases H with ⟨HSI, %h3⟩
  ihave H := (agree s' (oLoc d) (res m d)) $$ [HSI Ho]; · isplitl [HSI] <;> iassumption
  icases H with ⟨-, %ho⟩
  ipureintro; exact ⟨ho, h0, h1, h2, h3⟩

/-! ## The run -/

/-- Every device ends with the scores in the result and the arguments unchanged, and every semaphore at zero. -/
def QC : PUnit × MemSt nD τ sig (Elt F) → Prop := fun r =>
  (∀ c : Dev nD, r.2.mem (oLoc c) = res m c ∧ r.2.mem (a0Loc c) = m (a0Loc c) ∧ r.2.mem (a1Loc c) = m (a1Loc c) ∧ r.2.mem (a2Loc c) = m (a2Loc c) ∧ r.2.mem (a3Loc c) = m (a3Loc c))
    ∧ r.2.sem = fun _ => 0

/-- From ids in range, every execution ends, nothing faulting, as `QC` says. -/
theorem run_main [∀ e, Nonempty (Elt F e)] (hin : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Mf
end
-- ==== Proof.Pre.lean ====
/-
  The precondition read back: the printed predicate being one says every id is below 1000000.
-/
module

public import proofs.«01_k».proof.Proof.Launch
public import proofs.«01_k».proof.Proof.Gen.Pre_in_range
public import Idealize.ShloMosaic.Lib.ReduceAll
public import Idealize.ShloMosaic.Lib.WordCmp

@[expose] public section

noncomputable section

namespace Cert.Proof.Mf

open Idealize.ShloMosaic
open Cert.Pre_in_range.Gen

variable {F : FTy → Type} [FloatOps F]

/-- A word that passes the two signed comparisons is below 1000000. -/
theorem lt_of_both (v : BitVec 32) (h : IntOp.andi (IntOp.cmpi .sge v 0#32) (IntOp.cmpi .slt v 1000000#32) = 1#1) : v.toNat < 1000000 := by
  have key : IntOp.andi (IntOp.cmpi .sge v 0#32) (IntOp.cmpi .slt v 1000000#32) = 1#1 ↔ v.toNat < 1000000 := by word_cmp
  exact key.1 h

/-- The printed predicate at one gives every id's range. -/
theorem range_of_fn (u i : IVec Cert.Pre_in_range.S16384 32) (ut it : FVec F Cert.Pre_in_range.S1000000x16 .f32)
    (h : Cert.Pre_in_range.fn (F := F) u i ut it = fun _ => 1#1) (x : Cert.Pre_in_range.S16384.Idx) : (u x).toNat < 1000000 ∧ (i x).toNat < 1000000 := by
  haveI : Subsingleton Cert.Pre_in_range.S_.Idx := ⟨fun a b => funext fun d => d.elim0⟩
  have h0 := congrFun h (fun d => d.elim0)
  have hp := IntOp.andi_eq_one.1 (show IntOp.andi (Host.reduce IntOp.andi _ _ reducesTo_S16384_S_d0 h_S_ _) (Host.reduce IntOp.andi _ _ reducesTo_S16384_S_d0 h_S_ _) = 1#1 from h0)
  exact ⟨lt_of_both _ (Host.reduce_andi_all _ _ _ _ _ hp.1 x), lt_of_both _ (Host.reduce_andi_all _ _ _ _ _ hp.2 x)⟩

end Cert.Proof.Mf
end
-- ==== Proof.Ref.lean ====
/-
  The reference read at an index: each of its two takes is the id's table row, and its result the sum of the sixteen products — the
  kernel's running sum over the extended reals.
-/
module

public import proofs.«01_k».proof.Proof.Launch
public import proofs.«01_k».proof.Proof.Gen.ReferenceIdeal.Run
public import Idealize.ShloMosaic.Lib.ReduceAll
public import Idealize.ShloMosaic.Lib.WordCmp
public import Idealize.ShloMosaic.Lib.StableHlo.Predicate
public import Idealize.ShloMosaic.Lib.IdealHost
public import Idealize.ShloMosaic.Lib.Pointwise.Reduce

@[expose] public section

noncomputable section

namespace Cert.Proof.Mf.Ref

open Idealize.ShloMosaic hiding ix1 ix2 eq_ix1 eq_ix2
open Idealize.ShloMosaic.ValueIdx (ix1 ix2 eq_ix1 eq_ix2 idx2_lt0 idx2_lt1)
open Cert.ReferenceIdeal Cert.ReferenceIdeal.Gen
open Cert.Proof.Mf (tab entry dot Scores)

variable {F : FTy → Type} [FloatOps F]

/-! ## The take -/

/-- The ids as the reference wraps them: a negative id has the table's length added. -/
abbrev wrapped (a : IVec S16384 32) : IVec S16384 32 :=
  select (cmpi .slt a (broadcastInDim S16384 ![] bcast_S_S16384 (constantI S_ 32 0#32)))
    (addi a (broadcastInDim S16384 ![] bcast_S_S16384 (constantI S_ 32 1000000#32))) a

/-- The wrapped ids as a column. -/
abbrev column (a : IVec S16384 32) : IVec S16384x1 32 := broadcastInDim S16384x1 ![0] bcast_S16384_S16384x1_0 (wrapped a)

/-- Which ids are inside the table. -/
abbrev inside (a : IVec S16384 32) : IVec S16384 1 :=
  Host.reduce IntOp.andi
    (andi (cmpi .sge (column a) (broadcastInDim S16384x1 ![] bcast_S_S16384x1 (constantI S_ 32 0#32)))
      (cmpi .sle (column a) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The rows the ids name, as the reference prints it. -/
abbrev took (t : FVec F S1000000x16 .f32) (a : IVec S16384 32) : FVec F S16384x16 .f32 :=
  select (broadcastInDim S16384x16 ![0] bcast_S16384_S16384x16_0 (inside a))
    (Host.gather gather_S1000000x16_S16384x1_S16384x16_1_0_n_n_0_1_116 t (column a))
    (broadcastInDim S16384x16 ![] bcast_S_S16384x16 (constant S_ .f32 0x7FC00000#32))

/-- A word below 1000000 reads the same signed and unsigned. -/
theorem toInt_of_range {w : BitVec 32} (h : w.toNat < 1000000) : w.toInt = w.toNat := StableHlo.Predicate.toInt_eq_toNat_of_lt (by omega)

/-- An id in range is not wrapped. -/
theorem wrapped_eq (a : IVec S16384 32) (h : ∀ x, (a x).toNat < 1000000) : wrapped a = a := by
  funext x
  show Scalar.select (IntOp.cmpi .slt (a x) 0#32) (IntOp.addi (a x) 1000000#32) (a x) = a x
  have hx := h x
  have : ¬ IntOp.cmpi .slt (a x) 0#32 = 1#1 := by
    rw [IntOp.cmpi_slt, toInt_of_range hx]
    show ¬ (((a x).toNat : ℤ) < 0)
    omega
  exact if_neg this

/-- The column holds, in every row, that row's id. -/
theorem column_apply (a : IVec S16384 32) (h : ∀ x, (a x).toNat < 1000000) (y : S16384x1.Idx) : column a y = a (ix1 ⟨(y 0).val, idx2_lt0 y⟩) := by
  show broadcastInDim S16384x1 ![0] bcast_S16384_S16384x1_0 (wrapped a) y = _
  rw [wrapped_eq a h]
  unfold broadcastInDim
  congr 1
  funext c
  obtain rfl : c = 0 := Subsingleton.elim _ _
  refine Fin.ext ?_
  rw [dif_neg (show ¬ S16384.size 0 = 1 by decide)]
  rfl

/-- Every id in range is inside. -/
theorem inside_apply (a : IVec S16384 32) (h : ∀ x, (a x).toNat < 1000000) (x : S16384.Idx) : inside a x = 1#1 := by
  refine Host.reduce_andi_one _ _ _ _ x rfl fun y => ?_
  show IntOp.andi (IntOp.cmpi .sge (column a y) 0#32) (IntOp.cmpi .sle (column a y) 999999#32) = 1#1
  rw [column_apply a h y, IntOp.andi_eq_one, IntOp.cmpi_sge, IntOp.cmpi_sle, toInt_of_range (h _)]
  have hx := h (ix1 ⟨(y 0).val, idx2_lt0 y⟩)
  constructor
  · show (0 : ℤ) ≤ _; omega
  · show _ ≤ (999999 : ℤ); omega

/-- The gather reads, at `(x, d)`, entry `d` of the row the id at `x` names. -/
theorem gather_apply (t : FVec F S1000000x16 .f32) (a : IVec S16384 32) (h : ∀ x, (a x).toNat < 1000000) (x : Fin 16384) (d : Fin 16) :
    Host.gather gather_S1000000x16_S16384x1_S16384x16_1_0_n_n_0_1_116 t (column a) (ix2 x d) = t (ix2 ⟨(a (ix1 x)).toNat, h _⟩ d) := by
  unfold Host.gather
  congr 1
  funext c
  refine Fin.ext ?_
  show (gather_S1000000x16_S16384x1_S16384x16_1_0_n_n_0_1_116).start (ix2 x d) (column a) c
      + (gather_S1000000x16_S16384x1_S16384x16_1_0_n_n_0_1_116).batchCoord (ix2 x d) c
      + (gather_S1000000x16_S16384x1_S16384x16_1_0_n_n_0_1_116).offCoord (ix2 x d) c = _
  rw [GatherDims.batchCoord_eq_zero _ _ _ List.not_mem_nil]
  have h01 : c = 0 ∨ c = 1 := by
    match c with
    | ⟨0, _⟩ => exact Or.inl rfl
    | ⟨1, _⟩ => exact Or.inr rfl
  rcases h01 with rfl | rfl
  · rw [GatherDims.offCoord_eq_zero _ _ _ (fun hk => ((GatherDims.mem_sKept _ _).mp hk).1 (List.mem_singleton.mpr rfl))]
    unfold GatherDims.start
    rw [dif_pos (show (0 : Fin 2) ∈ (gather_S1000000x16_S16384x1_S16384x16_1_0_n_n_0_1_116).startIndexMap from List.mem_singleton.mpr rfl), column_apply a h]
    show min (a (ix1 x)).toInt.toNat (1000000 - 1) + 0 + 0 = (a (ix1 x)).toNat
    have hx := h (ix1 x)
    rw [toInt_of_range hx, Int.toNat_natCast]
    omega
  · unfold GatherDims.start
    rw [dif_neg (show ¬ (1 : Fin 2) ∈ (gather_S1000000x16_S16384x1_S16384x16_1_0_n_n_0_1_116).startIndexMap from
      fun hm => absurd (congrArg Fin.val (List.mem_singleton.mp hm)) Nat.one_ne_zero)]
    show 0 + 0 + d.val = d.val
    omega

/-- The take reads, at `(x, d)`, entry `d` of the row the id at `x` names. -/
theorem took_apply (t : FVec F S1000000x16 .f32) (a : IVec S16384 32) (h : ∀ x, (a x).toNat < 1000000) (x : Fin 16384) (d : Fin 16) :
    took t a (ix2 x d) = t (ix2 ⟨(a (ix1 x)).toNat, h _⟩ d) := by
  have hb : broadcastInDim S16384x16 ![0] bcast_S16384_S16384x16_0 (inside a) (ix2 x d) = 1#1 := by
    unfold broadcastInDim
    exact inside_apply a h _
  unfold took
  rw [ValueIdx.select_apply, hb, gather_apply t a h x d]
  exact if_pos rfl

/-! ## The kernel's entry is the table's -/

/-- Entry `d` of an id's row in the reshaped table is the table's own. -/
theorem entry_tab (t : FVec F S1000000x16 .f32) (w : BitVec 32) (hw : w.toNat < 1000000) (d : Fin 16) :
    entry (F := F) (tab (F := F) t) w d.val = t (ix2 ⟨w.toNat, hw⟩ d) := by
  unfold entry tab shapeCast
  congr 1
  apply Shape.reshapeEquiv_eq_of_rowMajor
  rw [Shape.rowMajor_val_two, Shape.rowMajor_val_two]
  show w.toNat * 16 + d.val = w.toNat / 8 % 125000 * 128 + (w.toNat % 8 * 16 + d.val) % 128
  have := d.isLt
  omega

/-! ## The sums -/

/-- The kernel's running sum over the extended reals is the sum. -/
theorem dot_ideal (ut it : Cert.KernelIdeal.S125000x128.Idx → Ideal .f32) (wu wi : BitVec 32) (n : ℕ) :
    dot (F := Ideal) ut it wu wi n = (∑ k : Fin n, (entry (F := Ideal) ut wu k.val * entry (F := Ideal) it wi k.val : EReal) : EReal) := by
  induction n with
  | zero => exact Ideal.ofBits_zero_f32
  | succ n ih => rw [Fin.sum_univ_castSucc, dot, ih]; rfl

/-- The reference's result is the kernel's scores. -/
theorem value (t s : FVec Ideal S1000000x16 .f32) (u i : IVec S16384 32) (hu : ∀ x, (u x).toNat < 1000000) (hi : ∀ x, (i x).toNat < 1000000) :
    Host.reduceAdd (mulf (took t u) (took s i)) (constant S_ .f32 0x00000000#32) reducesTo_S16384x16_S16384_d1 h_S_
      = Scores (F := Ideal) u i (tab (F := Ideal) t) (tab (F := Ideal) s) := by
  funext x
  rw [ValueIdx.hostReduceAdd_apply, Ideal.hostReduceAdd_r2_a1]
  show Ideal.ofBits .f32 0x00000000#32 + _ = dot (F := Ideal) (tab (F := Ideal) t) (tab (F := Ideal) s) (u x) (i x) 16
  rw [Ideal.ofBits_zero_f32, zero_add, dot_ideal]
  refine Finset.sum_congr rfl fun k _ => ?_
  obtain ⟨y, rfl⟩ : ∃ y : Fin 16384, x = ix1 y := ⟨x 0, eq_ix1 x⟩
  show took t u (ix2 y k) * took s i (ix2 y k) = _
  rw [took_apply t u hu, took_apply s i hi, entry_tab t _ (hu _), entry_tab s _ (hi _)]

end Cert.Proof.Mf.Ref
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Launch
public import proofs.«01_k».proof.Proof.Pre
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The precondition gives what the kernel's proof asks of the launch memory: every id below 1000000. -/
theorem inRange_kernel (m : (ℓ : Loc Cert.Kernel.nD Cert.Kernel.τ Cert.Kernel.sig) → Buf (Elt Bits) ℓ) (h : Cert.Pre_Kernel m) : Mf.InRange (F := Bits) m :=
  fun d x => Mf.range_of_fn (F := Bits) _ _ _ _ (h d) x

/-- The same of the idealized kernel. -/
theorem inRange_ideal (m : (ℓ : Loc Cert.KernelIdeal.nD Cert.KernelIdeal.τ Cert.KernelIdeal.sig) → Buf (Elt Ideal) ℓ) (h : Cert.Pre_KernelIdeal m) : Mf.InRange (F := Ideal) m :=
  fun d x => Mf.range_of_fn (F := Ideal) _ _ _ _ (h d) x

/-- The kernel on words ends, its arguments unchanged and every counter at zero. -/
theorem frame_kernel : Cert.quiescent_Kernel := fun m ρ h =>
  (θ_run Cert.KernelIdeal.defs _ _).mono (fun _ h => ⟨fun c => (h.1 c).2, h.2⟩) (Mf.run_main (F := Bits) m ρ (inRange_kernel m h))

/-- The kernel over the extended reals ends, its arguments unchanged and every counter at zero. -/
theorem frame_ideal : Cert.quiescent_KernelIdeal := fun m ρ h =>
  (θ_run Cert.KernelIdeal.defs _ _).mono (fun _ h => ⟨fun c => (h.1 c).2, h.2⟩) (Mf.run_main (F := Ideal) m ρ (inRange_ideal m h))

/-- The reference ends, its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from the same arguments, the kernel's scores are the reference's. -/
theorem algebraic : Cert.algebraic_KernelIdeal_ReferenceIdeal := by
  intro m ρ m' ρ' hpre hagree
  refine ⟨fun c => Mf.res (F := Ideal) m c, (θ_run Cert.KernelIdeal.defs _ _).mono (fun _ h c => h.1 c) (Mf.run_main (F := Ideal) m ρ (inRange_ideal m hpre)), ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2.1, (hagree c).2.2.2]
  exact Mf.Ref.value _ _ _ _ (fun x => (inRange_ideal m hpre c x).1) (fun x => (inRange_ideal m hpre c x).2)

/-- The certificate's claim. -/
theorem claim : Cert.Claim := ⟨Cert.Kernel.Gen.facts, Cert.KernelIdeal.Gen.facts, Cert.ReferenceIdeal.Gen.facts, Cert.Pre_in_range.Gen.facts,
  frame_kernel, frame_ideal, frame_reference, trivial, algebraic⟩

end Cert.Proof

end
